-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_qmax" .f32 0x3E124925#32 ((1 / 7 : ℝ) : EReal)

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S6x256x6144 : Shape := ⟨3, ![6, 256, 6144]⟩
abbrev S6x256x48 : Shape := ⟨3, ![6, 256, 48]⟩
abbrev S64 : Shape := ⟨1, ![64]⟩
abbrev S6x256x64x96 : Shape := ⟨4, ![6, 256, 64, 96]⟩
abbrev S6x256x64 : Shape := ⟨3, ![6, 256, 64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S6x256x64 : S_.BroadcastsInDim S6x256x64 (![] : Fin 0 → Fin S6x256x64.rank)
  reducesTo_S6x256x64_S_d0_1_2 : S6x256x64.ReducesTo [0, 1, 2] S_

variable [Facts]

def fn {F : FTy → Type} [FloatOps F] (main_arg0 : FVec F S6x256x6144 .bf16) (main_arg1 : FVec F S6x256x48 .f32) (main_arg2 : FVec F S6x256x48 .f32) (main_arg3 : FVec F S64 .f32) (main_arg4 : FVec F S6x256x64x96 .fp8e5m2) (main_arg5 : FVec F S6x256x64 .f32) : IVec S_ 1 :=
  let main_cst : FVec F S_ .f32 := constant S_ .f32 0x00000000#32
  let main_v0 : FVec F S64 .f32 := broadcastInDim S64 ![] bcast_S_S64 main_cst
  let main_v1 : IVec S64 1 := cmpf .une main_arg3 main_v0
  let main_c : IVec S_ 1 := constantI S_ 1 1#1
  let main_v2 : IVec S_ 1 := (fun x v => Host.reduce IntOp.andi x v reducesTo_S64_S_d0 h_S_) main_v1 main_c
  let main_cst_0 : FVec F S_ .f32 := constant S_ .f32 0x00000000#32
  let main_v3 : FVec F S6x256x64 .f32 := broadcastInDim S6x256x64 ![] bcast_S_S6x256x64 main_cst_0
  let main_v4 : IVec S6x256x64 1 := cmpf .oge main_arg5 main_v3
  let main_cst_1 : FVec F S_ .f32 := constant S_ .f32 0x7F800000#32
  let main_v5 : FVec F S6x256x64 .f32 := broadcastInDim S6x256x64 ![] bcast_S_S6x256x64 main_cst_1
  let main_v6 : IVec S6x256x64 1 := cmpf .olt main_arg5 main_v5
  let main_v7 : IVec S6x256x64 1 := andi main_v4 main_v6
  let main_c_2 : IVec S_ 1 := constantI S_ 1 1#1
  let main_v8 : IVec S_ 1 := (fun x v => Host.reduce IntOp.andi x v reducesTo_S6x256x64_S_d0_1_2 h_S_) main_v7 main_c_2
  let main_v9 : IVec S_ 1 := andi main_v2 main_v8
  main_v9
-- ==== Kernel.lean ====
abbrev S6x256x6144 : Shape := ⟨3, ![6, 256, 6144]⟩
abbrev S6x256x48 : Shape := ⟨3, ![6, 256, 48]⟩
abbrev S64 : Shape := ⟨1, ![64]⟩
abbrev S6x256x64x96 : Shape := ⟨4, ![6, 256, 64, 96]⟩
abbrev S6x256x64 : Shape := ⟨3, ![6, 256, 64]⟩
abbrev S6x48x256 : Shape := ⟨3, ![6, 48, 256]⟩
abbrev S6x64x96x256 : Shape := ⟨4, ![6, 64, 96, 256]⟩
abbrev S6x6144x256 : Shape := ⟨3, ![6, 6144, 256]⟩
abbrev S6x64x256 : Shape := ⟨3, ![6, 64, 256]⟩
abbrev S1x64 : Shape := ⟨2, ![1, 64]⟩
abbrev S6x3x64x256 : Shape := ⟨4, ![6, 3, 64, 256]⟩
abbrev S1x256x768 : Shape := ⟨3, ![1, 256, 768]⟩
abbrev S1x48x256 : Shape := ⟨3, ![1, 48, 256]⟩
abbrev S1x768x256 : Shape := ⟨3, ![1, 768, 256]⟩
abbrev S1x8x256 : Shape := ⟨3, ![1, 8, 256]⟩
abbrev S1x3x8x256 : Shape := ⟨4, ![1, 3, 8, 256]⟩
abbrev S768x256 : Shape := ⟨2, ![768, 256]⟩
abbrev S2x3x71x128 : Shape := ⟨4, ![2, 3, 71, 128]⟩
abbrev S2x3x8x128 : Shape := ⟨4, ![2, 3, 8, 128]⟩
abbrev S64x128 : Shape := ⟨2, ![64, 128]⟩
abbrev S64x64 : Shape := ⟨2, ![64, 64]⟩
abbrev S64x1 : Shape := ⟨2, ![64, 1]⟩
abbrev S256x256 : Shape := ⟨2, ![256, 256]⟩
abbrev S1x256x256 : Shape := ⟨3, ![1, 256, 256]⟩
abbrev S8x128 : Shape := ⟨2, ![8, 128]⟩
abbrev S1x48x128 : Shape := ⟨3, ![1, 48, 128]⟩
abbrev S48x128 : Shape := ⟨2, ![48, 128]⟩
abbrev S96x128 : Shape := ⟨2, ![96, 128]⟩
abbrev S3x4x8x128 : Shape := ⟨4, ![3, 4, 8, 128]⟩
abbrev S1x4x8x128 : Shape := ⟨4, ![1, 4, 8, 128]⟩
abbrev S4x8x128 : Shape := ⟨3, ![4, 8, 128]⟩
abbrev S1x1x71x128 : Shape := ⟨4, ![1, 1, 71, 128]⟩
abbrev S71x128 : Shape := ⟨2, ![71, 128]⟩
abbrev S1x1x8x128 : Shape := ⟨4, ![1, 1, 8, 128]⟩
abbrev S32x128 : Shape := ⟨2, ![32, 128]⟩
abbrev S1x1x1x128 : Shape := ⟨4, ![1, 1, 1, 128]⟩
abbrev S1x128 : Shape := ⟨2, ![1, 128]⟩
abbrev S1x32x128 : Shape := ⟨3, ![1, 32, 128]⟩
abbrev S1x1x128 : Shape := ⟨3, ![1, 1, 128]⟩
abbrev S1x8x128 : Shape := ⟨3, ![1, 8, 128]⟩
abbrev S256x768 : Shape := ⟨2, ![256, 768]⟩
abbrev S6x256x64x3 : Shape := ⟨4, ![6, 256, 64, 3]⟩

abbrev nBuf : Space → Nat
  | .hbm => 22
  | .vmem => 26
  | .smem => 0
  | _ => 0

abbrev bufTy : (tb : Table) → Fin (tcTables nBuf tb) → BufTy
  | .hbm, ⟨0, _⟩ => ⟨S6x256x6144, .bf16⟩
  | .hbm, ⟨1, _⟩ => ⟨S6x256x48, .f32⟩
  | .hbm, ⟨2, _⟩ => ⟨S6x256x48, .f32⟩
  | .hbm, ⟨3, _⟩ => ⟨S64, .f32⟩
  | .hbm, ⟨4, _⟩ => ⟨S6x256x64x96, .fp8e5m2⟩
  | .hbm, ⟨5, _⟩ => ⟨S6x256x64, .f32⟩
  | .hbm, ⟨6, _⟩ => ⟨S6x48x256, .f32⟩
  | .hbm, ⟨7, _⟩ => ⟨S6x48x256, .f32⟩
  | .hbm, ⟨8, _⟩ => ⟨S6x64x96x256, .fp8e5m2⟩
  | .hbm, ⟨9, _⟩ => ⟨S6x6144x256, .fp8e5m2⟩
  | .hbm, ⟨10, _⟩ => ⟨S6x64x256, .f32⟩
  | .hbm, ⟨11, _⟩ => ⟨S1x64, .f32⟩
  | .hbm, ⟨12, _⟩ => ⟨S6x256x6144, .bf16⟩
  | .hbm, ⟨13, _⟩ => ⟨S1x64, .f32⟩
  | .hbm, ⟨14, _⟩ => ⟨S6x64x256, .f32⟩
  | .hbm, ⟨15, _⟩ => ⟨S6x6144x256, .i8⟩
  | .hbm, ⟨16, _⟩ => ⟨S6x3x64x256, .f32⟩
  | .hbm, ⟨17, _⟩ => ⟨S6x64x96x256, .i8⟩
  | .hbm, ⟨18, _⟩ => ⟨S6x256x64x96, .i8⟩
  | .hbm, ⟨19, _⟩ => ⟨S64, .f32⟩
  | .hbm, ⟨20, _⟩ => ⟨S6x256x64, .f32⟩
  | .hbm, ⟨21, _⟩ => ⟨S6x256x64x3, .f32⟩
  | .local _ .vmem, ⟨0, _⟩ => ⟨S1x256x768, .bf16⟩
  | .local _ .vmem, ⟨1, _⟩ => ⟨S1x256x768, .bf16⟩
  | .local _ .vmem, ⟨2, _⟩ => ⟨S1x48x256, .f32⟩
  | .local _ .vmem, ⟨3, _⟩ => ⟨S1x48x256, .f32⟩
  | .local _ .vmem, ⟨4, _⟩ => ⟨S1x48x256, .f32⟩
  | .local _ .vmem, ⟨5, _⟩ => ⟨S1x48x256, .f32⟩
  | .local _ .vmem, ⟨6, _⟩ => ⟨S1x64, .f32⟩
  | .local _ .vmem, ⟨7, _⟩ => ⟨S1x768x256, .fp8e5m2⟩
  | .local _ .vmem, ⟨8, _⟩ => ⟨S1x768x256, .fp8e5m2⟩
  | .local _ .vmem, ⟨9, _⟩ => ⟨S1x8x256, .f32⟩
  | .local _ .vmem, ⟨10, _⟩ => ⟨S1x8x256, .f32⟩
  | .local _ .vmem, ⟨11, _⟩ => ⟨S1x256x768, .bf16⟩
  | .local _ .vmem, ⟨12, _⟩ => ⟨S1x256x768, .bf16⟩
  | .local _ .vmem, ⟨13, _⟩ => ⟨S1x64, .f32⟩
  | .local _ .vmem, ⟨14, _⟩ => ⟨S1x8x256, .f32⟩
  | .local _ .vmem, ⟨15, _⟩ => ⟨S1x8x256, .f32⟩
  | .local _ .vmem, ⟨16, _⟩ => ⟨S1x768x256, .i8⟩
  | .local _ .vmem, ⟨17, _⟩ => ⟨S1x768x256, .i8⟩
  | .local _ .vmem, ⟨18, _⟩ => ⟨S1x3x8x256, .f32⟩
  | .local _ .vmem, ⟨19, _⟩ => ⟨S1x3x8x256, .f32⟩
  | .local _ .vmem, ⟨20, _⟩ => ⟨S768x256, .f32⟩
  | .local _ .vmem, ⟨21, _⟩ => ⟨S768x256, .bf16⟩
  | .local _ .vmem, ⟨22, _⟩ => ⟨S2x3x71x128, .f32⟩
  | .local _ .vmem, ⟨23, _⟩ => ⟨S2x3x8x128, .f32⟩
  | .local _ .vmem, ⟨24, _⟩ => ⟨S64x128, .f32⟩
  | .local _ .vmem, ⟨25, _⟩ => ⟨S64x128, .f32⟩
  | _, _ => ⟨S6x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![6, 8], ![false, false]⟩

def k0_off1 (i : grid0.Coords) : Fin 2 → Nat :=
  let arg1 : BitVec 32 := BitVec.ofNat 32 (i 1).val
  let c8_i32 : BitVec 32 := 8#32
  let v32 : BitVec 32 := Scalar.muli arg1 c8_i32
  let v33 : Index := Scalar.indexCast v32
  let c0_18 : Index := 0#32
  ![v33.toNat, 0]
def k0_cond2 (i : grid0.Coords) : BitVec 1 :=
  let arg0 : BitVec 32 := BitVec.ofNat 32 (i 0).val
  let c5_i32 : BitVec 32 := 5#32
  let v2956 : BitVec 1 := Scalar.cmpi .eq arg0 c5_i32
  let arg1 : BitVec 32 := BitVec.ofNat 32 (i 1).val
  let c7_i32 : BitVec 32 := 7#32
  let v2957 : BitVec 1 := Scalar.cmpi .eq arg1 c7_i32
  let v2958 : BitVec 1 := Scalar.andi v2956 v2957
  let v2959 : BitVec 32 := Scalar.extui v2958
  let c0_i32_2275 : BitVec 32 := 0#32
  let v2960 : BitVec 1 := Scalar.cmpi .ne v2959 c0_i32_2275
  v2960

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x48x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x768x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x768x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_qmax" => some ((1 / 7 : ℝ) : EReal)
  | _ => none
-- ==== ReferenceIdeal.lean ====
abbrev S6x256x6144 : Shape := ⟨3, ![6, 256, 6144]⟩
abbrev S6x256x48 : Shape := ⟨3, ![6, 256, 48]⟩
abbrev S64 : Shape := ⟨1, ![64]⟩
abbrev S6x256x64x96 : Shape := ⟨4, ![6, 256, 64, 96]⟩
abbrev S6x256x64 : Shape := ⟨3, ![6, 256, 64]⟩
abbrev S6x256x64x3 : Shape := ⟨4, ![6, 256, 64, 3]⟩
abbrev S6x256x1x48 : Shape := ⟨4, ![6, 256, 1, 48]⟩
abbrev S6x256x64x48 : Shape := ⟨4, ![6, 256, 64, 48]⟩
abbrev S6x256x64x3x32 : Shape := ⟨5, ![6, 256, 64, 3, 32]⟩
abbrev S64x1 : Shape := ⟨2, ![64, 1]⟩
abbrev S1x1x64x1 : Shape := ⟨4, ![1, 1, 64, 1]⟩
abbrev S6x256x64x3x1 : Shape := ⟨5, ![6, 256, 64, 3, 1]⟩
abbrev S6x256x64x1 : Shape := ⟨4, ![6, 256, 64, 1]⟩

abbrev nBuf : Space → Nat
  | .hbm => 11
  | .vmem => 11
  | .smem => 0
  | _ => 0

abbrev bufTy : (tb : Table) → Fin (tcTables nBuf tb) → BufTy
  | .hbm, ⟨0, _⟩ => ⟨S6x256x6144, .bf16⟩
  | .hbm, ⟨1, _⟩ => ⟨S6x256x48, .f32⟩
  | .hbm, ⟨2, _⟩ => ⟨S6x256x48, .f32⟩
  | .hbm, ⟨3, _⟩ => ⟨S64, .f32⟩
  | .hbm, ⟨4, _⟩ => ⟨S6x256x64x96, .fp8e5m2⟩
  | .hbm, ⟨5, _⟩ => ⟨S6x256x64, .f32⟩
  | .hbm, ⟨6, _⟩ => ⟨S6x256x6144, .bf16⟩
  | .hbm, ⟨7, _⟩ => ⟨S64, .f32⟩
  | .hbm, ⟨8, _⟩ => ⟨S6x256x64, .f32⟩
  | .hbm, ⟨9, _⟩ => ⟨S6x256x64x96, .i8⟩
  | .hbm, ⟨10, _⟩ => ⟨S6x256x64x3, .f32⟩
  | .local _ .vmem, ⟨0, _⟩ => ⟨S6x256x6144, .bf16⟩
  | .local _ .vmem, ⟨1, _⟩ => ⟨S6x256x48, .f32⟩
  | .local _ .vmem, ⟨2, _⟩ => ⟨S6x256x48, .f32⟩
  | .local _ .vmem, ⟨3, _⟩ => ⟨S64, .f32⟩
  | .local _ .vmem, ⟨4, _⟩ => ⟨S6x256x64x96, .fp8e5m2⟩
  | .local _ .vmem, ⟨5, _⟩ => ⟨S6x256x64, .f32⟩
  | .local _ .vmem, ⟨6, _⟩ => ⟨S6x256x6144, .bf16⟩
  | .local _ .vmem, ⟨7, _⟩ => ⟨S64, .f32⟩
  | .local _ .vmem, ⟨8, _⟩ => ⟨S6x256x64, .f32⟩
  | .local _ .vmem, ⟨9, _⟩ => ⟨S6x256x64x96, .i8⟩
  | .local _ .vmem, ⟨10, _⟩ => ⟨S6x256x64x3, .f32⟩
  | _, _ => ⟨S6x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x64x96 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x256x64x96 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x256x64x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Entry.lean ====
/- The blocks a grid point is given, in terms of the arguments. -/
module

public import proofs.«01_k».proof.Proof.Gen.KernelIdeal.Frame
public import Idealize.ShloMosaic.Lib.Pipeline.ValueKit

@[expose] public section

set_option maxRecDepth 16384

noncomputable section

namespace Cert.Entry

open Idealize.ShloMosaic Idealize.ShloMosaic.TcCoe
open Cert.KernelIdeal Cert.KernelIdeal.Gen

variable (m : (b : Loc nD τ sig) → Buf (Elt Ideal) b) (c : Dev nD)

theorem V_cos : V m c main_v0 = (transpose S6x48x256 [0, 2, 1] (m ((c : Thread nD τ).loc main_arg1)) transposes_S6x256x48_S6x48x256_0_2_1) := by
  unfold_abbrev_sides
  rfl

theorem V_sin : V m c main_v1 = (transpose S6x48x256 [0, 2, 1] (m ((c : Thread nD τ).loc main_arg2)) transposes_S6x256x48_S6x48x256_0_2_1) := by
  unfold_abbrev_sides
  rfl

theorem V_codes : V m c main_v3 = shapeCast S6x6144x256 (transpose S6x64x96x256 [0, 2, 3, 1] (m ((c : Thread nD τ).loc main_arg4)) transposes_S6x256x64x96_S6x64x96x256_0_2_3_1) shapeCasts_S6x64x96x256_S6x6144x256 := by
  unfold_abbrev_sides
  rfl

theorem V_scales : V m c main_v4 = (transpose S6x64x256 [0, 2, 1] (m ((c : Thread nD τ).loc main_arg5)) transposes_S6x256x64_S6x64x256_0_2_1) := by
  unfold_abbrev_sides
  rfl

theorem V_alpha : V m c main_v5 = shapeCast S1x64 (m ((c : Thread nD τ).loc main_arg3)) shapeCasts_S64_S1x64 := by
  unfold_abbrev_sides
  rfl

/-- The batch entry and the eight heads of a point. -/
def bOf (t : Fin cfg0.N) : Fin 6 := grid0.coords t 0
def hOf (t : Fin cfg0.N) : Fin 8 := grid0.coords t 1

theorem bOf_val : ∀ t : Fin cfg0.N, (bOf t).val = t.val / 8 := (by decide +kernel : ∀ t : Fin grid0.N, (grid0.coords t 0).val = t.val / 8)
theorem hOf_val : ∀ t : Fin cfg0.N, (hOf t).val = t.val % 8 := (by decide +kernel : ∀ t : Fin grid0.N, (grid0.coords t 1).val = t.val % 8)

theorem idx_k : ∀ t : Fin cfg0.N, win0_0.index t = ![t.val / 8, 0, t.val % 8] := (by decide +kernel : ∀ t : Fin grid0.N, _)
theorem idx_cos : ∀ t : Fin cfg0.N, win0_1.index t = ![t.val / 8, 0, 0] := (by decide +kernel : ∀ t : Fin grid0.N, _)
theorem idx_sin : ∀ t : Fin cfg0.N, win0_2.index t = ![t.val / 8, 0, 0] := (by decide +kernel : ∀ t : Fin grid0.N, _)
theorem idx_alpha : ∀ t : Fin cfg0.N, win0_3.index t = ![0, 0] := (by decide +kernel : ∀ t : Fin grid0.N, _)
theorem idx_codes : ∀ t : Fin cfg0.N, win0_4.index t = ![t.val / 8, t.val % 8, 0] := (by decide +kernel : ∀ t : Fin grid0.N, _)
theorem idx_scales : ∀ t : Fin cfg0.N, win0_5.index t = ![t.val / 8, t.val % 8, 0] := (by decide +kernel : ∀ t : Fin grid0.N, _)

/-- Row `r` of a block of eight heads is head `r / 96`'s entry `r % 96`. -/
def rowAt (t : Fin cfg0.N) (r : Fin 768) : Fin 6144 := ⟨768 * (hOf t).val + r.val, by omega⟩
def headAt (t : Fin cfg0.N) (h : Fin 8) : Fin 64 := ⟨8 * (hOf t).val + h.val, by omega⟩

theorem blk_k (t : Fin cfg0.N) (p : Fin 256) (r : Fin 768) :
    iblk m c 0 t (ix3 0 p r) = m ((c : Thread nD τ).loc main_arg0) (ix3 (bOf t) p (rowAt t r) : S6x256x6144.Idx) := by
  rw [← V_main_arg0 m c]
  unfold iblk
  refine congrArg (V m c main_arg0) ?_
  have e := idx_k t
  funext a
  match a with
  | ⟨0, _⟩ => exact Fin.ext (by show win0_0.index t 0 * 1 + 1 * 0 = (bOf t).val; rw [e, bOf_val]; show t.val / 8 * 1 + 1 * 0 = _; omega)
  | ⟨1, _⟩ => exact Fin.ext (by show win0_0.index t 1 * 256 + 1 * p.val = p.val; rw [e]; show 0 * 256 + 1 * p.val = _; omega)
  | ⟨2, _⟩ => exact Fin.ext (by show win0_0.index t 2 * 768 + 1 * r.val = 768 * (hOf t).val + r.val; rw [e, hOf_val]; show t.val % 8 * 768 + 1 * r.val = _; omega)

theorem blk_cos (t : Fin cfg0.N) (i : Fin 48) (p : Fin 256) :
    iblk m c 1 t (ix3 0 i p) = m ((c : Thread nD τ).loc main_arg1) (ix3 (bOf t) p i : S6x256x48.Idx) := by
  have e : iblk m c 1 t (ix3 0 i p) = V m c main_v0 (ix3 (bOf t) i p : S6x48x256.Idx) := by
    unfold iblk
    refine congrArg (V m c main_v0) ?_
    have e := idx_cos t
    funext a
    match a with
    | ⟨0, _⟩ => exact Fin.ext (by show win0_1.index t 0 * 1 + 1 * 0 = (bOf t).val; rw [e, bOf_val]; show (t.val / 8) * 1 + 1 * 0 = _; omega)
    | ⟨1, _⟩ => exact Fin.ext (by show win0_1.index t 1 * 48 + 1 * i.val = i.val; rw [e]; show 0 * 48 + 1 * i.val = _; omega)
    | ⟨2, _⟩ => exact Fin.ext (by show win0_1.index t 2 * 256 + 1 * p.val = p.val; rw [e]; show 0 * 256 + 1 * p.val = _; omega)
  rw [e, V_cos]
  generalize m ((c : Thread nD τ).loc main_arg1) = w
  exact transpose_apply _ _ _ _ _ fun b => match b with | ⟨0, _⟩ => rfl | ⟨1, _⟩ => rfl | ⟨2, _⟩ => rfl

theorem blk_sin (t : Fin cfg0.N) (i : Fin 48) (p : Fin 256) :
    iblk m c 2 t (ix3 0 i p) = m ((c : Thread nD τ).loc main_arg2) (ix3 (bOf t) p i : S6x256x48.Idx) := by
  have e : iblk m c 2 t (ix3 0 i p) = V m c main_v1 (ix3 (bOf t) i p : S6x48x256.Idx) := by
    unfold iblk
    refine congrArg (V m c main_v1) ?_
    have e := idx_sin t
    funext a
    match a with
    | ⟨0, _⟩ => exact Fin.ext (by show win0_2.index t 0 * 1 + 1 * 0 = (bOf t).val; rw [e, bOf_val]; show (t.val / 8) * 1 + 1 * 0 = _; omega)
    | ⟨1, _⟩ => exact Fin.ext (by show win0_2.index t 1 * 48 + 1 * i.val = i.val; rw [e]; show 0 * 48 + 1 * i.val = _; omega)
    | ⟨2, _⟩ => exact Fin.ext (by show win0_2.index t 2 * 256 + 1 * p.val = p.val; rw [e]; show 0 * 256 + 1 * p.val = _; omega)
  rw [e, V_sin]
  generalize m ((c : Thread nD τ).loc main_arg2) = w
  exact transpose_apply _ _ _ _ _ fun b => match b with | ⟨0, _⟩ => rfl | ⟨1, _⟩ => rfl | ⟨2, _⟩ => rfl

theorem blk_alpha (t : Fin cfg0.N) (h : Fin 64) :
    iblk m c 3 t (ix2 0 h) = m ((c : Thread nD τ).loc main_arg3) (ix1 h : S64.Idx) := by
  have e : iblk m c 3 t (ix2 0 h) = V m c main_v5 (ix2 0 h : S1x64.Idx) := by
    unfold iblk
    refine congrArg (V m c main_v5) ?_
    have e := idx_alpha t
    funext a
    match a with
    | ⟨0, _⟩ => exact Fin.ext (by show win0_3.index t 0 * 1 + 1 * 0 = 0; rw [e]; show 0 * 1 + 1 * 0 = _; omega)
    | ⟨1, _⟩ => exact Fin.ext (by show win0_3.index t 1 * 64 + 1 * h.val = h.val; rw [e]; show 0 * 64 + 1 * h.val = _; omega)
  rw [e, V_alpha]
  generalize m ((c : Thread nD τ).loc main_arg3) = w
  refine shapeCast_apply w _ _ (ix1 h) ?_
  refine (Shape.rowMajor_val_one (ix1 h : S64.Idx)).trans (Eq.trans ?_ (Shape.rowMajor_val_two (ix2 0 h : S1x64.Idx)).symm)
  show h.val = 0 * 64 + h.val
  omega

theorem blk_scales (t : Fin cfg0.N) (h : Fin 8) (p : Fin 256) :
    iblk m c 5 t (ix3 0 h p) = m ((c : Thread nD τ).loc main_arg5) (ix3 (bOf t) p (headAt t h) : S6x256x64.Idx) := by
  have e : iblk m c 5 t (ix3 0 h p) = V m c main_v4 (ix3 (bOf t) (headAt t h) p : S6x64x256.Idx) := by
    unfold iblk
    refine congrArg (V m c main_v4) ?_
    have e := idx_scales t
    funext a
    match a with
    | ⟨0, _⟩ => exact Fin.ext (by show win0_5.index t 0 * 1 + 1 * 0 = (bOf t).val; rw [e, bOf_val]; show (t.val / 8) * 1 + 1 * 0 = _; omega)
    | ⟨1, _⟩ => exact Fin.ext (by show win0_5.index t 1 * 8 + 1 * h.val = 8 * (hOf t).val + h.val; rw [e, hOf_val]; show (t.val % 8) * 8 + 1 * h.val = _; omega)
    | ⟨2, _⟩ => exact Fin.ext (by show win0_5.index t 2 * 256 + 1 * p.val = p.val; rw [e]; show 0 * 256 + 1 * p.val = _; omega)
  rw [e, V_scales]
  generalize m ((c : Thread nD τ).loc main_arg5) = w
  exact transpose_apply _ _ _ _ _ fun b => match b with | ⟨0, _⟩ => rfl | ⟨1, _⟩ => rfl | ⟨2, _⟩ => rfl

theorem blk_codes (t : Fin cfg0.N) (h : Fin 8) (j : Fin 96) (p : Fin 256) :
    iblk m c 4 t (ix3 0 (⟨96 * h.val + j.val, by omega⟩ : Fin 768) p) = m ((c : Thread nD τ).loc main_arg4) (ix4 (bOf t) p (headAt t h) j : S6x256x64x96.Idx) := by
  have e : iblk m c 4 t (ix3 0 (⟨96 * h.val + j.val, by omega⟩ : Fin 768) p) = V m c main_v3 (ix3 (bOf t) (⟨96 * (headAt t h).val + j.val, by omega⟩ : Fin 6144) p : S6x6144x256.Idx) := by
    unfold iblk
    refine congrArg (V m c main_v3) ?_
    have e := idx_codes t
    funext a
    match a with
    | ⟨0, _⟩ => exact Fin.ext (by show win0_4.index t 0 * 1 + 1 * 0 = (bOf t).val; rw [e, bOf_val]; show (t.val / 8) * 1 + 1 * 0 = _; omega)
    | ⟨1, _⟩ => exact Fin.ext (by show win0_4.index t 1 * 768 + 1 * (96 * h.val + j.val) = 96 * (8 * (hOf t).val + h.val) + j.val; rw [e, hOf_val]; show (t.val % 8) * 768 + 1 * (96 * h.val + j.val) = _; omega)
    | ⟨2, _⟩ => exact Fin.ext (by show win0_4.index t 2 * 256 + 1 * p.val = p.val; rw [e]; show 0 * 256 + 1 * p.val = _; omega)
  rw [e, V_codes]
  generalize m ((c : Thread nD τ).loc main_arg4) = w
  refine (shapeCast_apply _ _ _ (ix4 (bOf t) (headAt t h) j p) ?_).trans ?_
  · rw [Shape.rowMajor_val_four, Shape.rowMajor_val_three]
    show (((bOf t).val * 64 + (headAt t h).val) * 96 + j.val) * 256 + p.val = ((bOf t).val * 6144 + (96 * (headAt t h).val + j.val)) * 256 + p.val
    omega
  · exact transpose_apply _ _ _ _ _ fun b => match b with | ⟨0, _⟩ => rfl | ⟨1, _⟩ => rfl | ⟨2, _⟩ => rfl | ⟨3, _⟩ => rfl

end Cert.Entry
-- ==== Proof.Model.lean ====
/- What one grid point of the kernel computes, written as a recursion over tiles, groups and heads instead of
   one line per store.  `Match.lean` shows that the run of the printed kernel is this by unfolding. -/
module

public import proofs.«01_k».proof.Proof.Gen.KernelIdeal.Frame.Runs

@[expose] public section

set_option maxRecDepth 16384

noncomputable section

namespace Cert.Model

open Idealize.ShloMosaic Idealize.ShloMosaic.TcCoe
open Cert.KernelIdeal Cert.KernelIdeal.Gen

variable {F : FTy → Type} [FloatOps F] [Named F]

abbrev V8 (F : FTy → Type) := FVec F S8x128 .f32
abbrev V32 (F : FTy → Type) := FVec F S32x128 .f32
abbrev V48 (F : FTy → Type) := FVec F S48x128 .f32
abbrev V96 (F : FTy → Type) := FVec F S96x128 .f32

def h8 (n : Nat) : Fin 8 := ⟨n % 8, Nat.mod_lt _ (by decide)⟩
def t2 (n : Nat) : Fin 2 := ⟨n % 2, Nat.mod_lt _ (by decide)⟩
def g3 (n : Nat) : Fin 3 := ⟨n % 3, Nat.mod_lt _ (by decide)⟩

/-! ### Rectangles -/

theorem inb48 (h : Fin 8) (t : Fin 2) (o : Nat) (ho : o ≤ 48) :
    ∀ a, (![96 * h.val + o, 128 * t.val] : Fin 2 → Nat) a + S48x128.size a ≤ S768x256.size a :=
  Fin.forall_fin_two.mpr ⟨by show 96 * h.val + o + 48 ≤ 768; omega, by show 128 * t.val + 128 ≤ 256; omega⟩

theorem inb96 (h : Fin 8) (t : Fin 2) :
    ∀ a, (![96 * h.val, 128 * t.val] : Fin 2 → Nat) a + S96x128.size a ≤ S768x256.size a :=
  Fin.forall_fin_two.mpr ⟨by show 96 * h.val + 96 ≤ 768; omega, by show 128 * t.val + 128 ≤ 256; omega⟩

theorem inb32 (h : Fin 8) (g : Fin 3) (t : Fin 2) :
    ∀ a, (![96 * h.val + 32 * g.val, 128 * t.val] : Fin 2 → Nat) a + S32x128.size a ≤ S768x256.size a :=
  Fin.forall_fin_two.mpr ⟨by show 96 * h.val + 32 * g.val + 32 ≤ 768; omega, by show 128 * t.val + 128 ≤ 256; omega⟩

theorem inb256 (j : Fin 3) :
    ∀ a, (![256 * j.val, 0] : Fin 2 → Nat) a + S256x256.size a ≤ S768x256.size a := by revert j; decide

theorem inbPlane (t : Fin 2) (g : Fin 3) :
    ∀ a, (![t.val, g.val, 0, 0] : Fin 4 → Nat) a + S1x1x71x128.size a ≤ S2x3x71x128.size a := by revert t g; decide

theorem inbLane (h : Fin 8) :
    ∀ a, S8x128.size a = 0 ∨ (![h.val, 0] : Fin 2 → Nat) a + (![9, 1] : Fin 2 → Nat) a * (S8x128.size a - 1) < S71x128.size a := by
  revert h; decide

theorem inbRow (k : Fin 8) :
    ∀ a, (![9 * k.val, 0] : Fin 2 → Nat) a + S8x128.size a ≤ S71x128.size a := by revert k; decide

theorem inbRs (t : Fin 2) (g : Fin 3) :
    ∀ a, (![t.val, g.val, 0, 0] : Fin 4 → Nat) a + S1x1x8x128.size a ≤ S2x3x8x128.size a := by revert t g; decide

theorem inbRs1 (t : Fin 2) (g : Fin 3) (h : Fin 8) :
    ∀ a, (![t.val, g.val, h.val, 0] : Fin 4 → Nat) a + S1x1x1x128.size a ≤ S2x3x8x128.size a := by revert t g h; decide

theorem inbCode (h : Fin 8) (g : Fin 3) (t : Fin 2) :
    ∀ a, (![0, 96 * h.val + 32 * g.val, 128 * t.val] : Fin 3 → Nat) a + S1x32x128.size a ≤ S1x768x256.size a := by
  revert t g h; decide

theorem inbTile (t : Fin 2) :
    ∀ a, (![0, 0, 128 * t.val] : Fin 3 → Nat) a + S1x8x128.size a ≤ S1x8x256.size a := by revert t; decide

theorem inbScale (g : Fin 3) (t : Fin 2) :
    ∀ a, (![0, g.val, 0, 128 * t.val] : Fin 4 → Nat) a + S1x1x8x128.size a ≤ S1x3x8x256.size a := by revert t g; decide

theorem slicesG (g : Fin 3) : S3x4x8x128.Slices ![g.val, 0, 0, 0] S1x4x8x128 := by revert g; decide

/-- Head `h` of the 96 rows of tile `t`. -/
abbrev r96 (h : Fin 8) (t : Fin 2) : Rect S768x256 := Rect.unit ![96 * h.val, 128 * t.val] S96x128.size (inb96 h t)
abbrev r48 (h : Fin 8) (t : Fin 2) : Rect S768x256 :=
  Rect.unit ![96 * h.val + 0, 128 * t.val] S48x128.size (inb48 h t 0 (by decide))
abbrev r48' (h : Fin 8) (t : Fin 2) : Rect S768x256 :=
  Rect.unit ![96 * h.val + 48, 128 * t.val] S48x128.size (inb48 h t 48 (by decide))
abbrev r32 (h : Fin 8) (g : Fin 3) (t : Fin 2) : Rect S768x256 :=
  Rect.unit ![96 * h.val + 32 * g.val, 128 * t.val] S32x128.size (inb32 h g t)

abbrev plane (t : Fin 2) (g : Fin 3) : Rect S2x3x71x128 :=
  Rect.unit ![t.val, g.val, 0, 0] S1x1x71x128.size (inbPlane t g)

theorem ones : ∀ i : Fin 2, (![1, 71, 128] : Fin 3 → Nat) i.succ = S71x128.size i := by decide
theorem ones' : ∀ i : Fin 3, (![1, 1, 71, 128] : Fin 4 → Nat) i.succ = (![1, 71, 128] : Fin 3 → Nat) i := by decide

/-- Rows `h, h+9, …` of a 71-row plane. -/
abbrev lane (h : Fin 8) : Rect S71x128 :=
  { off := ![h.val, 0], size := S8x128.size, stride := ![9, 1], inb := inbLane h, stride_pos := by decide }

abbrev laneIn (h : Fin 8) : Rect ⟨4, ![1, 1, 71, 128]⟩ :=
  Rect.consLift (d := (![1, 71, 128] : Fin 3 → Nat)) (Rect.consLift (d := S71x128.size) (lane h) ![1, 71, 128] rfl ones) ![1, 1, 71, 128] rfl ones'

abbrev laneAt (t : Fin 2) (g : Fin 3) (h : Fin 8) : Rect S2x3x71x128 :=
  Rect.within (plane t g) (laneIn h) (fun _ => rfl)

abbrev rowIn (k : Fin 8) : LoadRect ⟨4, ![1, 1, 71, 128]⟩ :=
  LoadRect.consLift (d := (![1, 71, 128] : Fin 3 → Nat))
    (LoadRect.consLift (d := S71x128.size) (Rect.toLoadRect (Rect.unit (s := S71x128) ![9 * k.val, 0] S8x128.size (inbRow k))) ![1, 71, 128] rfl ones)
    ![1, 1, 71, 128] rfl ones'

abbrev rowAt (t : Fin 2) (g : Fin 3) (k : Fin 8) : LoadRect S2x3x71x128 :=
  Rect.withinL (plane t g) (rowIn k) (fun _ => rfl)

theorem numelLane (h : Fin 8) : (laneIn h).shape.numel = (lane h).shape.numel := by revert h; decide
theorem numelRow (k : Fin 8) :
    (Rect.toLoadRect (Rect.unit (s := S71x128) ![9 * k.val, 0] S8x128.size (inbRow k))).shape.numel = (rowIn k).shape.numel := by
  revert k; decide

/-! ### Phase 1: rotation and group maxima -/

/-- The rotated 96 rows of one head. -/
def rot (x1 x2 c s : V48 F) : V96 F :=
  concatenate S96x128 0 [⟨S48x128, subf (mulf x1 c) (mulf x2 s)⟩, ⟨S48x128, addf (mulf x2 c) (mulf x1 s)⟩]
    concatenates_S48x128_S48x128_S96x128_d0

/-- The rotation undone. -/
def unrot (d1 d2 c s : V48 F) : V96 F :=
  concatenate S96x128 0 [⟨S48x128, addf (mulf d1 c) (mulf d2 s)⟩, ⟨S48x128, subf (mulf d2 c) (mulf d1 s)⟩]
    concatenates_S48x128_S48x128_S96x128_d0

/- The buffers the point works in: the rotated block, the staging rows, the reciprocal scales, the gradient.
   What it reads: the three column chunks of its block of `k`, the two lane tiles of the two rotation tables, its
   eight rows of the carried `alpha` and of the carried sum, the incoming codes of each group, the incoming scale
   of each head as one row, and of all eight heads as one tile. -/
variable (kr : Memref sig .tc .vmem S768x256 .f32) (slab : Memref sig .tc .vmem S2x3x71x128 .f32)
  (rs : Memref sig .tc .vmem S2x3x8x128 .f32) (dk : Memref sig .tc .vmem S768x256 .bf16)
  (k : Fin 3 → Vec F S1x256x256 .bf16) (cos sin : Fin 2 → Vec F S1x48x128 .f32) (alpha acc : Vec F S8x128 .f32)
  (code : Fin 2 → Fin 8 → Fin 3 → Vec F S1x32x128 .fp8e5m2) (row : Fin 2 → Fin 8 → Vec F S1x1x128 .f32)
  (tile : Fin 2 → Vec F S1x8x128 .f32)

/-- One chunk of the block of `k`, transposed by the unit matrix. -/
def chunk (j : Fin 3) : FVec F S256x256 .f32 :=
  shapeCast S256x256 (matmul dot_S256x256_S256x256_S256x256_1_1_0_0_n_n none k0_pay3
    (shapeCast S256x256 (k j) shapeCasts_S1x256x256_S256x256) (constant S256x256 .f32 0x00000000#32)) shapeCasts_S256x256_S256x256

def cosT (t : Fin 2) : V48 F := shapeCast S48x128 (cos t) shapeCasts_S1x48x128_S48x128
def sinT (t : Fin 2) : V48 F := shapeCast S48x128 (sin t) shapeCasts_S1x48x128_S48x128

def krBase : List (View.Piece (Elt F) S768x256 .f32) :=
  [⟨Rect.unit ![256 * (2 : Fin 3).val, 0] S256x256.size (inb256 2), chunk k 2⟩,
   ⟨Rect.unit ![256 * (1 : Fin 3).val, 0] S256x256.size (inb256 1), chunk k 1⟩,
   ⟨Rect.unit ![256 * (0 : Fin 3).val, 0] S256x256.size (inb256 0), chunk k 0⟩]

/-- The rotated rows of head `h` of tile `t`, read from the list `L` of what has been stored. -/
def rotAt (L : List (View.Piece (Elt F) S768x256 .f32)) (h : Fin 8) (t : Fin 2) : V96 F :=
  rot (View.readCov kr.view L (r48 h t).toLoadRect) (View.readCov kr.view L (r48' h t).toLoadRect) (cosT cos t) (sinT sin t)

/-- The stores into the rotated block, the first `n` heads done (tile by tile). -/
def krL : Nat → List (View.Piece (Elt F) S768x256 .f32)
  | 0 => krBase k
  | n + 1 => ⟨r96 (h8 n) (t2 (n / 8)), shapeCast S96x128 (rotAt kr cos sin (krL n) (h8 n) (t2 (n / 8))) shapeCasts_S96x128_S96x128⟩ :: krL n

/-- Four chunks of eight rows reduced to one. -/
def maxOf (g : Fin 3) (v : V96 F) : V8 F :=
  multiReduction .maximumf [0] S8x128
    (shapeCast S4x8x128 (extractStridedSlice S1x4x8x128 ![g.val, 0, 0, 0] (shapeCast S3x4x8x128 (absf v) shapeCasts_S96x128_S3x4x8x128)
      (slicesG g)) shapeCasts_S1x4x8x128_S4x8x128) 0xFF800000#32 reduces_S4x8x128_S8x128 (.inl rfl) rfl

def maxP (t : Fin 2) (g : Fin 3) (h : Fin 8) : V8 F := maxOf g (rotAt kr cos sin (krL kr k cos sin (8 * t.val + h.val)) h t)

/-! ### The staging rows -/

/-- The first `n` stores of tile `t`'s partials `P` (group by group, head by head) on top of `B`. -/
def slabSeg (B : List (View.Piece (Elt F) S2x3x71x128 .f32)) (t : Fin 2) (P : Fin 3 → Fin 8 → V8 F) :
    Nat → List (View.Piece (Elt F) S2x3x71x128 .f32)
  | 0 => B
  | n + 1 => ⟨laneAt t (g3 (n / 8)) (h8 n), Rect.payAlong (numelLane (h8 n))
      (shapeCast S8x128 (P (g3 (n / 8)) (h8 n)) shapeCasts_S8x128_S8x128)⟩ :: slabSeg B t P n

/-- Row block `k` of plane `(t, g)`: sublane `k` of every head. -/
def slabRow (L : List (View.Piece (Elt F) S2x3x71x128 .f32)) (t : Fin 2) (g : Fin 3) (j : Fin 8) : V8 F :=
  LoadRect.valAlong (numelRow j) (View.readCov slab.view L (rowAt t g j))

def tree (op : V8 F → V8 F → V8 F) (r : Fin 8 → V8 F) : V8 F :=
  op (op (op (r 0) (r 1)) (op (r 2) (r 3))) (op (op (r 4) (r 5)) (op (r 6) (r 7)))

/-- Each head's eight sublanes of group `g` combined, right after that group's stores. -/
def fold (op : V8 F → V8 F → V8 F) (B : List (View.Piece (Elt F) S2x3x71x128 .f32)) (t : Fin 2) (P : Fin 3 → Fin 8 → V8 F)
    (g : Fin 3) : V8 F :=
  tree op (slabRow slab (slabSeg B t P (8 * g.val + 8)) t g)

variable (B : List (View.Piece (Elt F) S2x3x71x128 .f32))

/-- The group maxima of tile `t`. -/
def amax (t : Fin 2) (g : Fin 3) : V8 F := fold slab maximumf B t (maxP kr k cos sin t) g

/-- The scale of a group from its maximum. -/
def sOf (alpha a : V8 F) : V8 F :=
  select (cmpf .oeq a (broadcast S8x128 (Scalar.ofBits .f32 0x00000000#32 : F .f32)))
    (broadcast S8x128 (Scalar.ofBits .f32 0x3F800000#32 : F .f32))
    (mulf (mulf alpha a) (broadcast S8x128 (Named.named κ "inv_qmax" 0x3E124925#32 : F .f32)))

def sV (t : Fin 2) (g : Fin 3) : V8 F := sOf alpha (amax kr slab k cos sin B t g)

def a7 (t : Fin 2) (g : Fin 3) : V8 F :=
  mulf (amax kr slab k cos sin B t g) (broadcast S8x128 (Named.named κ "inv_qmax" 0x3E124925#32 : F .f32))

def rsPiece (t : Fin 2) (g : Fin 3) : View.Piece (Elt F) S2x3x8x128 .f32 :=
  ⟨Rect.unit ![t.val, g.val, 0, 0] S1x1x8x128.size (inbRs t g),
    shapeCast S1x1x8x128 (divf (broadcast S8x128 (Scalar.ofBits .f32 0x3F800000#32 : F .f32)) (sV kr slab k cos sin alpha B t g)) shapeCasts_S8x128_S1x1x8x128⟩

/-- The reciprocal scales of tile `t` stored on top of `R`. -/
def rsSeg (R : List (View.Piece (Elt F) S2x3x8x128 .f32)) (t : Fin 2) : List (View.Piece (Elt F) S2x3x8x128 .f32) :=
  rsPiece kr slab k cos sin alpha B t 2 :: rsPiece kr slab k cos sin alpha B t 1 :: rsPiece kr slab k cos sin alpha B t 0 :: R

/-! ### Phase 2: codes, gradient and term sums -/

variable (R : List (View.Piece (Elt F) S2x3x8x128 .f32))

def q (t : Fin 2) (h : Fin 8) (g : Fin 3) : V32 F :=
  mulf (View.readCov kr.view (krL kr k cos sin (8 * t.val + 8)) (r32 h g t).toLoadRect)
    (broadcastTo S32x128 (shapeCast S1x128 (View.readCov rs.view (rsSeg kr slab k cos sin alpha B R t)
      (Rect.unit (s := S2x3x8x128) ![t.val, g.val, h.val, 0] S1x1x1x128.size (inbRs1 t g h)).toLoadRect) shapeCasts_S1x1x1x128_S1x128) broadcasts_S1x128_S32x128)

def clipped (v : V32 F) : V32 F :=
  minimumf (broadcast S32x128 (Scalar.ofBits .f32 0x40E00000#32 : F .f32))
    (maximumf (broadcast S32x128 (Scalar.ofBits .f32 0xC0E00000#32 : F .f32)) v)

def codeOf (v : V32 F) : V32 F := roundeven (clipped v)

def inside (v : V32 F) : IVec S32x128 1 := cmpf .oeq (clipped v) v

def zero32 : V32 F := broadcast S32x128 (Scalar.ofBits .f32 0x00000000#32 : F .f32)

def grad (t : Fin 2) (h : Fin 8) (g : Fin 3) : V32 F :=
  extf .f32 (shapeCast S32x128 (code t h g) shapeCasts_S1x32x128_S32x128) bitsLt_fp8e5m2_f32

def sumOf (v gr : V32 F) : V8 F :=
  multiReduction .add [0] S8x128
    (shapeCast S4x8x128 (mulf gr (subf (codeOf v) (select (inside v) v zero32))) shapeCasts_S32x128_S4x8x128)
    0x00000000#32 reduces_S4x8x128_S8x128 (.inl rfl) rfl

def sumP (t : Fin 2) (g : Fin 3) (h : Fin 8) : V8 F := sumOf (q kr slab rs k cos sin alpha B R t h g) (grad code t h g)

def dg (t : Fin 2) (h : Fin 8) (g : Fin 3) : V32 F := select (inside (q kr slab rs k cos sin alpha B R t h g)) (grad code t h g) zero32

def dgAll (t : Fin 2) (h : Fin 8) : V96 F :=
  concatenate S96x128 0 [⟨S32x128, dg kr slab rs k cos sin alpha code B R t h 0⟩, ⟨S32x128, dg kr slab rs k cos sin alpha code B R t h 1⟩, ⟨S32x128, dg kr slab rs k cos sin alpha code B R t h 2⟩]
    concatenates_S32x128_S32x128_S32x128_S96x128_d0

def dkV (t : Fin 2) (h : Fin 8) : FVec F S96x128 .bf16 :=
  mulf (truncf .bf16 (unrot (extractStridedSlice S48x128 ![0, 0] (dgAll kr slab rs k cos sin alpha code B R t h) slices_S96x128_o0_0_S48x128)
      (extractStridedSlice S48x128 ![48, 0] (dgAll kr slab rs k cos sin alpha code B R t h) slices_S96x128_o48_0_S48x128) (cosT cos t) (sinT sin t)) bitsLt_bf16_f32)
    (broadcastTo S96x128 (truncf .bf16 (shapeCast S1x128 (row t h) shapeCasts_S1x1x128_S1x128) bitsLt_bf16_f32) broadcasts_S1x128_S96x128)

/-- The staging rows after tile `t`'s maxima and its first `n` term sums. -/
def slabT (t : Fin 2) : List (View.Piece (Elt F) S2x3x71x128 .f32) := slabSeg B t (maxP kr k cos sin t) 24

def termV (t : Fin 2) (g : Fin 3) : V8 F := fold slab addf (slabT kr k cos sin B t) t (sumP kr slab rs k cos sin alpha code B R t) g

def tokG (t : Fin 2) (g : Fin 3) : V8 F :=
  mulf (mulf (termV kr slab rs k cos sin alpha code B R t g) (shapeCast S8x128 (tile t) shapeCasts_S1x8x128_S8x128)) (a7 kr slab k cos sin B t g)

def tok (t : Fin 2) : V8 F := addf (addf (tokG kr slab rs k cos sin alpha code tile B R t 0) (tokG kr slab rs k cos sin alpha code tile B R t 1)) (tokG kr slab rs k cos sin alpha code tile B R t 2)

/-! ### The two tiles and the outputs -/

/-- The staging rows when tile `t` starts. -/
def slab0 : Fin 2 → List (View.Piece (Elt F) S2x3x71x128 .f32)
  | 0 => []
  | 1 => slabSeg (slabT kr k cos sin [] 0) 0 (sumP kr slab rs k cos sin alpha code [] [] 0) 24

def rs0 : Fin 2 → List (View.Piece (Elt F) S2x3x8x128 .f32)
  | 0 => []
  | 1 => rsSeg kr slab k cos sin alpha [] [] 0

def codePiece (t : Fin 2) (h : Fin 8) (g : Fin 3) : View.Piece (Elt F) S1x768x256 .i8 :=
  ⟨Rect.unit ![0, 96 * h.val + 32 * g.val, 128 * t.val] S1x32x128.size (inbCode h g t),
    shapeCast S1x32x128 (fptosi 8 (codeOf (q kr slab rs k cos sin alpha (slab0 kr slab rs k cos sin alpha code t) (rs0 kr slab k cos sin alpha t) t h g))) shapeCasts_S32x128_S1x32x128⟩

/-- The stores of the codes: tile by tile, head by head, group by group. -/
def codeL : Nat → List (View.Piece (Elt F) S1x768x256 .i8)
  | 0 => []
  | n + 1 => codePiece kr slab rs k cos sin alpha code (t2 (n / 24)) (h8 (n / 3)) (g3 n) :: codeL n

def dkL : Nat → List (View.Piece (Elt F) S768x256 .bf16)
  | 0 => []
  | n + 1 => ⟨r96 (h8 n) (t2 (n / 8)),
      shapeCast S96x128 (dkV kr slab rs k cos sin alpha code row (slab0 kr slab rs k cos sin alpha code (t2 (n / 8))) (rs0 kr slab k cos sin alpha (t2 (n / 8))) (t2 (n / 8)) (h8 n)) shapeCasts_S96x128_S96x128⟩ :: dkL n

def scaleL : Nat → List (View.Piece (Elt F) S1x3x8x256 .f32)
  | 0 => []
  | n + 1 => ⟨Rect.unit ![0, (g3 n).val, 0, 128 * (t2 (n / 3)).val] S1x1x8x128.size (inbScale (g3 n) (t2 (n / 3))),
      shapeCast S1x1x8x128 (sV kr slab k cos sin alpha (slab0 kr slab rs k cos sin alpha code (t2 (n / 3))) (t2 (n / 3)) (g3 n)) shapeCasts_S8x128_S1x1x8x128⟩ :: scaleL n

def tokV (t : Fin 2) : V8 F := tok kr slab rs k cos sin alpha code tile (slab0 kr slab rs k cos sin alpha code t) (rs0 kr slab k cos sin alpha t) t

def outDk : List (View.Piece (Elt F) S1x256x768 .bf16) :=
  [⟨Rect.unit ![0, 0, 0] S1x256x768.size inb_S1x256x768_S1x256x768_0_0_0,
    k0_pay674 (View.readCov dk.view (dkL kr slab rs k cos sin alpha code row 16) (Rect.unit (s := S768x256) ![0, 0] S768x256.size inb_S768x256_S768x256_0_0).toLoadRect)⟩]

def outTok : List (View.Piece (Elt F) S1x8x256 .f32) :=
  [⟨Rect.unit ![0, 0, 128 * (1 : Fin 2).val] S1x8x128.size (inbTile 1), shapeCast S1x8x128 (tokV kr slab rs k cos sin alpha code tile 1) shapeCasts_S8x128_S1x8x128⟩,
   ⟨Rect.unit ![0, 0, 128 * (0 : Fin 2).val] S1x8x128.size (inbTile 0), shapeCast S1x8x128 (tokV kr slab rs k cos sin alpha code tile 0) shapeCasts_S8x128_S1x8x128⟩]

/-- The point's eight rows of the carried sum. -/
def accNew : V8 F := shapeCast S8x128 (addf (addf acc (tokV kr slab rs k cos sin alpha code tile 0)) (tokV kr slab rs k cos sin alpha code tile 1)) shapeCasts_S8x128_S8x128

end Cert.Model
-- ==== Proof.Match.lean ====
/- The run of one grid point, as printed, is the model: one equation per case and output.  Both sides unfold to the
   same expression, which Lean checks. -/
module

public import proofs.«01_k».proof.Proof.Model
public import proofs.«01_k».proof.Proof.Gen.KernelIdeal.Frame.RunA
public import proofs.«01_k».proof.Proof.Gen.KernelIdeal.Frame.RunB
public import proofs.«01_k».proof.Proof.Gen.KernelIdeal.Frame.RunC

@[expose] public section

set_option maxRecDepth 16384

noncomputable section

namespace Cert.Match

open Idealize.ShloMosaic Idealize.ShloMosaic.TcCoe
open Cert.KernelIdeal Cert.KernelIdeal.Gen Cert.Model

variable {F : FTy → Type} [FloatOps F] [Named F]

section
variable (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .vmem S1x64 .f32) (harg5 : arg5.IsWhole) (arg6 : Memref sig .tc .vmem S1x768x256 .fp8e5m2) (harg6 : arg6.IsWhole) (arg7 : Memref sig .tc .vmem S1x8x256 .f32) (harg7 : arg7.IsWhole)
  (arg13 : Memref sig .tc .vmem S768x256 .f32) (harg13 : arg13.IsWhole) (arg14 : Memref sig .tc .vmem S768x256 .bf16) (harg14 : arg14.IsWhole) (arg15 : Memref sig .tc .vmem S2x3x71x128 .f32) (harg15 : arg15.IsWhole) (arg16 : Memref sig .tc .vmem S2x3x8x128 .f32) (harg16 : arg16.IsWhole) (arg17 : Memref sig .tc .vmem S64x128 .f32) (harg17 : arg17.IsWhole) (arg18 : Memref sig .tc .vmem S64x128 .f32) (harg18 : arg18.IsWhole)
    (x0 : Vec F S1x256x768 .bf16) (x1 : Vec F S1x48x256 .f32) (x2 : Vec F S1x48x256 .f32) (x3 : Vec F S1x64 .f32) (x4 : Vec F S1x768x256 .fp8e5m2) (x5 : Vec F S1x8x256 .f32)

theorem inbK (j : Fin 3) : ∀ a, (![0, 0, 256 * j.val] : Fin 3 → Nat) a + S1x256x256.size a ≤ S1x256x768.size a := by revert j; decide
theorem inbRot (t : Fin 2) : ∀ a, (![0, 0, 128 * t.val] : Fin 3 → Nat) a + S1x48x128.size a ≤ S1x48x256.size a := by revert t; decide
theorem inbScaleRow (t : Fin 2) (h : Fin 8) : ∀ a, (![0, h.val, 128 * t.val] : Fin 3 → Nat) a + S1x1x128.size a ≤ S1x8x256.size a := by revert t h; decide

def kOf (j : Fin 3) : Vec F S1x256x256 .bf16 :=
  View.readAt (Elt F) arg2.view (Rect.unit (s := S1x256x768) ![0, 0, 256 * j.val] S1x256x256.size (inbK j)).toLoadRect (harg2.unread x0)
def rotOf (t : Fin 2) : Vec F S1x48x128 .f32 :=
  View.readAt (Elt F) arg3.view (Rect.unit (s := S1x48x256) ![0, 0, 128 * t.val] S1x48x128.size (inbRot t)).toLoadRect (harg3.unread x1)
def codesOf (t : Fin 2) (h : Fin 8) (g : Fin 3) : Vec F S1x32x128 .fp8e5m2 :=
  View.readAt (Elt F) arg6.view (Rect.unit (s := S1x768x256) ![0, 96 * h.val + 32 * g.val, 128 * t.val] S1x32x128.size (inbCode h g t)).toLoadRect (harg6.unread x4)
def rowOf (t : Fin 2) (h : Fin 8) : Vec F S1x1x128 .f32 :=
  View.readAt (Elt F) arg7.view (Rect.unit (s := S1x8x256) ![0, h.val, 128 * t.val] S1x1x128.size (inbScaleRow t h)).toLoadRect (harg7.unread x5)
def tileOf (t : Fin 2) : Vec F S1x8x128 .f32 :=
  View.readAt (Elt F) arg7.view (Rect.unit (s := S1x8x256) ![0, 0, 128 * t.val] S1x8x128.size (inbTile t)).toLoadRect (harg7.unread x5)

/-- Eight rows of a carried buffer, the rows of the point's heads. -/
def rowsOf (a : Memref sig .tc .vmem S64x128 .f32) (f : a.view.ty.Contents (Elt F)) : Vec F S8x128 .f32 :=
  View.readAt (Elt F) a.view (Rect.unit (s := S64x128) (k0_off1 i) S8x128.size (k0_off1_inb i)).toLoadRect f
/-- What the first point stores into the carried `alpha`. -/
def alphaL : List (View.Piece (Elt F) S64x128 .f32) :=
  [⟨Rect.unit ![0, 0] S64x128.size inb_S64x128_S64x128_0_0,
    k0_pay1 (View.readAt (Elt F) arg5.view (Rect.unit (s := S1x64) ![0, 0] S1x64.size inb_S1x64_S1x64_0_0).toLoadRect (harg5.unread x3))⟩]
/-- What the first point stores into the carried sum. -/
def zeroL : List (View.Piece (Elt F) S64x128 .f32) :=
  [⟨Rect.unit ![0, 0] S64x128.size inb_S64x128_S64x128_0_0, k0_pay2⟩]

variable (arg8 : Memref sig .tc .vmem S1x256x768 .bf16) (harg8 : arg8.IsWhole) (arg9 : Memref sig .tc .vmem S1x64 .f32) (harg9 : arg9.IsWhole) (arg10 : Memref sig .tc .vmem S1x8x256 .f32) (harg10 : arg10.IsWhole) (arg11 : Memref sig .tc .vmem S1x768x256 .i8) (harg11 : arg11.IsWhole) (arg12 : Memref sig .tc .vmem S1x3x8x256 .f32) (harg12 : arg12.IsWhole)
  (xs4 xs5 : Vec F S64x128 .f32)

theorem runA_dk (h0 : cond0_0 i) (h1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5).1 =
      outDk arg13 arg15 arg16 arg14 (kOf arg2 harg2 x0) (rotOf arg3 harg3 x1) (rotOf arg4 harg4 x2) (rowsOf i arg17 (arg17.view.writes (Elt F) arg17.view.junk (alphaL arg5 harg5 x3))) (codesOf arg6 harg6 x4) (rowOf arg7 harg7 x5) := by
  sl_kernel_rfl

theorem runA_tok (h0 : cond0_0 i) (h1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5).2.2.1 =
      outTok arg13 arg15 arg16 (kOf arg2 harg2 x0) (rotOf arg3 harg3 x1) (rotOf arg4 harg4 x2) (rowsOf i arg17 (arg17.view.writes (Elt F) arg17.view.junk (alphaL arg5 harg5 x3))) (codesOf arg6 harg6 x4) (tileOf arg7 harg7 x5) := by
  sl_kernel_rfl

theorem runA_codes (h0 : cond0_0 i) (h1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5).2.2.2.1 =
      codeL arg13 arg15 arg16 (kOf arg2 harg2 x0) (rotOf arg3 harg3 x1) (rotOf arg4 harg4 x2) (rowsOf i arg17 (arg17.view.writes (Elt F) arg17.view.junk (alphaL arg5 harg5 x3))) (codesOf arg6 harg6 x4) 48 := by
  sl_kernel_rfl

theorem runA_scales (h0 : cond0_0 i) (h1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5).2.2.2.2.1 =
      scaleL arg13 arg15 arg16 (kOf arg2 harg2 x0) (rotOf arg3 harg3 x1) (rotOf arg4 harg4 x2) (rowsOf i arg17 (arg17.view.writes (Elt F) arg17.view.junk (alphaL arg5 harg5 x3))) (codesOf arg6 harg6 x4) 6 := by
  sl_kernel_rfl

theorem runA_acc (h0 : cond0_0 i) (h1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5).2.2.2.2.2.2.1 =
      ⟨Rect.unit (k0_off1 i) S8x128.size (k0_off1_inb i), accNew arg13 arg15 arg16 (kOf arg2 harg2 x0) (rotOf arg3 harg3 x1) (rotOf arg4 harg4 x2) (rowsOf i arg17 (arg17.view.writes (Elt F) arg17.view.junk (alphaL arg5 harg5 x3))) (rowsOf i arg18 (arg18.view.writes (Elt F) arg18.view.junk zeroL)) (codesOf arg6 harg6 x4) (tileOf arg7 harg7 x5)⟩ :: zeroL := by
  sl_kernel_rfl

theorem runA_alpha (h0 : cond0_0 i) (h1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5).2.2.2.2.2.1 =
      alphaL arg5 harg5 x3 := by
  sl_kernel_rfl

theorem runB_dk (h0 : ¬cond0_0 i) (h1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).1 =
      outDk arg13 arg15 arg16 arg14 (kOf arg2 harg2 x0) (rotOf arg3 harg3 x1) (rotOf arg4 harg4 x2) (rowsOf i arg17 (harg17.unread xs4)) (codesOf arg6 harg6 x4) (rowOf arg7 harg7 x5) := by
  sl_kernel_rfl

theorem runB_tok (h0 : ¬cond0_0 i) (h1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.1 =
      outTok arg13 arg15 arg16 (kOf arg2 harg2 x0) (rotOf arg3 harg3 x1) (rotOf arg4 harg4 x2) (rowsOf i arg17 (harg17.unread xs4)) (codesOf arg6 harg6 x4) (tileOf arg7 harg7 x5) := by
  sl_kernel_rfl

theorem runB_codes (h0 : ¬cond0_0 i) (h1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.2.1 =
      codeL arg13 arg15 arg16 (kOf arg2 harg2 x0) (rotOf arg3 harg3 x1) (rotOf arg4 harg4 x2) (rowsOf i arg17 (harg17.unread xs4)) (codesOf arg6 harg6 x4) 48 := by
  sl_kernel_rfl

theorem runB_scales (h0 : ¬cond0_0 i) (h1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.2.2.1 =
      scaleL arg13 arg15 arg16 (kOf arg2 harg2 x0) (rotOf arg3 harg3 x1) (rotOf arg4 harg4 x2) (rowsOf i arg17 (harg17.unread xs4)) (codesOf arg6 harg6 x4) 6 := by
  sl_kernel_rfl

theorem runB_acc (h0 : ¬cond0_0 i) (h1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.2.2.2.2.1 =
      ⟨Rect.unit (k0_off1 i) S8x128.size (k0_off1_inb i), accNew arg13 arg15 arg16 (kOf arg2 harg2 x0) (rotOf arg3 harg3 x1) (rotOf arg4 harg4 x2) (rowsOf i arg17 (harg17.unread xs4)) (rowsOf i arg18 (harg18.unread xs5)) (codesOf arg6 harg6 x4) (tileOf arg7 harg7 x5)⟩ :: [] := by
  sl_kernel_rfl

theorem runC_dk (h0 : ¬cond0_0 i) (h1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).1 =
      outDk arg13 arg15 arg16 arg14 (kOf arg2 harg2 x0) (rotOf arg3 harg3 x1) (rotOf arg4 harg4 x2) (rowsOf i arg17 (harg17.unread xs4)) (codesOf arg6 harg6 x4) (rowOf arg7 harg7 x5) := by
  sl_kernel_rfl

theorem runC_tok (h0 : ¬cond0_0 i) (h1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.1 =
      outTok arg13 arg15 arg16 (kOf arg2 harg2 x0) (rotOf arg3 harg3 x1) (rotOf arg4 harg4 x2) (rowsOf i arg17 (harg17.unread xs4)) (codesOf arg6 harg6 x4) (tileOf arg7 harg7 x5) := by
  sl_kernel_rfl

theorem runC_codes (h0 : ¬cond0_0 i) (h1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.2.1 =
      codeL arg13 arg15 arg16 (kOf arg2 harg2 x0) (rotOf arg3 harg3 x1) (rotOf arg4 harg4 x2) (rowsOf i arg17 (harg17.unread xs4)) (codesOf arg6 harg6 x4) 48 := by
  sl_kernel_rfl

theorem runC_scales (h0 : ¬cond0_0 i) (h1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.2.2.1 =
      scaleL arg13 arg15 arg16 (kOf arg2 harg2 x0) (rotOf arg3 harg3 x1) (rotOf arg4 harg4 x2) (rowsOf i arg17 (harg17.unread xs4)) (codesOf arg6 harg6 x4) 6 := by
  sl_kernel_rfl

theorem runC_acc (h0 : ¬cond0_0 i) (h1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.2.2.2.2.2.1 =
      ⟨Rect.unit (k0_off1 i) S8x128.size (k0_off1_inb i), accNew arg13 arg15 arg16 (kOf arg2 harg2 x0) (rotOf arg3 harg3 x1) (rotOf arg4 harg4 x2) (rowsOf i arg17 (harg17.unread xs4)) (rowsOf i arg18 (harg18.unread xs5)) (codesOf arg6 harg6 x4) (tileOf arg7 harg7 x5)⟩ :: [] := by
  sl_kernel_rfl

theorem runC_sum (h0 : ¬cond0_0 i) (h1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x0 x1 x2 x3 x4 x5 xs4 xs5).2.1 =
      [⟨Rect.unit ![0, 0] S1x64.size inb_S1x64_S1x64_0_0, k0_pay675 (iota .tc S64x64 32 [0] iota_S64x64_d0_w32) (iota .tc S64x64 32 [1] iota_S64x64_d1_w32) (View.readAt (Elt F) arg18.view (Rect.unit (s := S64x128) ![0, 0] S64x128.size inb_S64x128_S64x128_0_0).toLoadRect (arg18.view.writes (Elt F) (harg18.unread xs5) (⟨Rect.unit (k0_off1 i) S8x128.size (k0_off1_inb i), accNew arg13 arg15 arg16 (kOf arg2 harg2 x0) (rotOf arg3 harg3 x1) (rotOf arg4 harg4 x2) (rowsOf i arg17 (harg17.unread xs4)) (rowsOf i arg18 (harg18.unread xs5)) (codesOf arg6 harg6 x4) (tileOf arg7 harg7 x5)⟩ :: [])))⟩] := by
  sl_kernel_rfl

end

end Cert.Match
-- ==== Proof.Canon.lean ====
/- What a buffer holds after a list of stores that is given by recursion: the last store that covers an element. -/
module

public import Idealize.ShloMosaic.Lib.Pipeline.ValueKit

@[expose] public section

noncomputable section

namespace Cert.Canon

open Idealize.ShloMosaic

variable {Val : EltTy → Type} [∀ e, Nonempty (Val e)] {s : Shape} {e : EltTy}

/-- Stores that miss the element leave it. -/
theorem skip (L : Nat → List (View.Piece Val s e)) (pc : Nat → View.Piece Val s e) (hL : ∀ n, L (n + 1) = pc n :: L n)
    (y : s.Idx) (m n : Nat) (hmn : m ≤ n) (hout : ∀ i, m ≤ i → i < n → y ∉ (pc i).1.set) :
    View.canon (L n) y = View.canon (L m) y := by
  induction n, hmn using Nat.le_induction with
  | base => rfl
  | succ n hn ih =>
    rw [hL, View.canon_cons_of_not_mem _ _ (hout n hn (Nat.lt_succ_self n))]
    exact ih fun i h1 h2 => hout i h1 (Nat.lt_succ_of_lt h2)

/-- The store that covers it and is not followed by another gives its value. -/
theorem hit (L : Nat → List (View.Piece Val s e)) (pc : Nat → View.Piece Val s e) (hL : ∀ n, L (n + 1) = pc n :: L n)
    (y : s.Idx) (m n : Nat) (hmn : m < n) (x : (pc m).1.shape.Idx) (hy : (pc m).1.emb x = y)
    (hout : ∀ i, m < i → i < n → y ∉ (pc i).1.set) : View.canon (L n) y = (pc m).2 x := by
  rw [skip L pc hL y (m + 1) n hmn hout, hL, ← hy]
  exact View.canon_cons_emb _ _ _ x

end Cert.Canon
-- ==== Proof.Scalar.lean ====
/- One element of the quantiser, over the extended reals: the two ways of writing it that the kernel and the
   reference use (clip before or after rounding, multiply by a reciprocal or divide) give the same value. -/
module

public import Idealize.ShloMosaic.Lib.Pipeline.ValueKit

@[expose] public section

noncomputable section

namespace Cert.Scalar

open Idealize.ShloMosaic

/-- Rounding to the nearest integer, ties to even, on the extended reals. -/
abbrev rnd (x : EReal) : EReal := Ideal.liftRound Ideal.roundHalfEven x

/-- Clipping to `[-7, 7]`. -/
def clip (x : EReal) : EReal := min 7 (max (-7) x)

theorem roundHalfEven_floor (r : ℝ) :
    Ideal.roundHalfEven r = ⌊r⌋ ∨ Ideal.roundHalfEven r = ⌊r⌋ + 1 := by
  unfold Ideal.roundHalfEven
  simp only
  split_ifs <;> simp

theorem roundHalfEven_mono : Monotone Ideal.roundHalfEven := by
  intro x y h
  have hf : ⌊x⌋ ≤ ⌊y⌋ := Int.floor_le_floor h
  rcases lt_or_eq_of_le hf with h1 | h1
  · rcases roundHalfEven_floor x with hx | hx <;> rcases roundHalfEven_floor y with hy | hy <;> omega
  · unfold Ideal.roundHalfEven
    simp only [h1]
    split_ifs <;> first | omega | (exfalso; linarith)

theorem roundHalfEven_int (n : ℤ) : Ideal.roundHalfEven (n : ℝ) = n := by
  unfold Ideal.roundHalfEven
  simp

theorem rnd_coe (r : ℝ) : rnd (r : EReal) = ((Ideal.roundHalfEven r : ℝ) : EReal) := rfl

theorem rnd_mono : Monotone rnd := by
  intro x y h
  induction x with
  | bot => exact bot_le
  | top => rw [top_le_iff.mp h]
  | coe x =>
    induction y with
    | bot => exact absurd h (by simp)
    | top => exact le_top
    | coe y =>
      rw [rnd_coe, rnd_coe]
      have := roundHalfEven_mono (EReal.coe_le_coe_iff.mp h)
      exact_mod_cast this

theorem rnd_seven : rnd 7 = 7 := by
  have := roundHalfEven_int 7
  have h7 : (7 : EReal) = ((7 : ℝ) : EReal) := rfl
  rw [h7, rnd_coe]
  have h : Ideal.roundHalfEven (7 : ℝ) = 7 := by simpa using this
  rw [h]; norm_num

theorem rnd_neg_seven : rnd (-7) = -7 := by
  have := roundHalfEven_int (-7)
  have h7 : (-7 : EReal) = ((-7 : ℝ) : EReal) := rfl
  rw [h7, rnd_coe]
  have h : Ideal.roundHalfEven (-7 : ℝ) = -7 := by simpa using this
  rw [h]; norm_num

/-- Rounding and clipping commute: the bounds are integers. -/
theorem rnd_clip (x : EReal) : rnd (clip x) = clip (rnd x) := by
  unfold clip
  rw [rnd_mono.map_min, rnd_mono.map_max, rnd_seven, rnd_neg_seven]

/-- Clipping leaves a value as it is exactly when its absolute value is at most 7. -/
theorem clip_eq_self (x : EReal) : clip x = x ↔ max x (-x) ≤ 7 := by
  unfold clip
  constructor
  · intro h
    refine max_le ?_ ?_
    · rw [← h]; exact min_le_left _ _
    · have h1 : (-7 : EReal) ≤ x := by
        rw [← h]; exact le_min (by
          have : ((-7 : ℝ) : EReal) ≤ ((7 : ℝ) : EReal) := by exact_mod_cast (by norm_num : (-7 : ℝ) ≤ 7)
          exact this) (le_max_left _ _)
      exact EReal.neg_le.mp h1
  · intro h
    have h1 : x ≤ 7 := (le_max_left _ _).trans h
    have h2 : -7 ≤ x := EReal.neg_le.mpr ((le_max_right _ _).trans h)
    rw [max_eq_right h2, min_eq_right h1]

/-- A rounded and clipped value is an integer of absolute value at most 7. -/
theorem clip_rnd_int (x : EReal) : ∃ n : ℤ, -7 ≤ n ∧ n ≤ 7 ∧ clip (rnd x) = ((n : ℝ) : EReal) := by
  have key : ∀ z : ℤ, ∃ n : ℤ, -7 ≤ n ∧ n ≤ 7 ∧ clip ((z : ℝ) : EReal) = ((n : ℝ) : EReal) := by
    intro z
    refine ⟨min 7 (max (-7) z), by omega, by omega, ?_⟩
    have h7 : (7 : EReal) = ((7 : ℝ) : EReal) := rfl
    have h7' : (-7 : EReal) = ((-7 : ℝ) : EReal) := rfl
    unfold clip
    have hc : Monotone (fun r : ℝ => (r : EReal)) := fun a b h => EReal.coe_le_coe_iff.mpr h
    rw [h7', h7, ← hc.map_max, ← hc.map_min]
    push_cast
    rfl
  have hb : clip ⊥ = -7 := by
    unfold clip
    rw [max_eq_left bot_le, min_eq_right]
    have : ((-7 : ℝ) : EReal) ≤ ((7 : ℝ) : EReal) := by exact_mod_cast (by norm_num : (-7 : ℝ) ≤ 7)
    exact this
  have ht : clip ⊤ = 7 := by
    unfold clip
    rw [max_eq_right le_top, min_eq_left le_top]
  induction x with
  | bot => exact ⟨-7, by omega, by omega, hb.trans (by norm_num; rfl)⟩
  | top => exact ⟨7, by omega, by omega, ht.trans (by norm_num; rfl)⟩
  | coe r => rw [rnd_coe]; exact key _

/-- The byte that holds a code reads back as the code. -/
theorem byte_round_trip (x : EReal) :
    (((Ideal.fptosi 8 (clip (rnd x))).toInt : ℝ) : EReal) = clip (rnd x) := by
  obtain ⟨n, h1, h2, h⟩ := clip_rnd_int x
  rw [h]
  have hi : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    norm_num
    omega
  unfold Ideal.fptosi
  rw [hi, BitVec.toInt_ofInt]
  have : n.bmod (2 ^ 8) = n := by
    rw [Int.bmod_eq_of_le] <;> omega
  rw [this]

/-- Multiplying by the reciprocal of a nonzero scale is dividing by it. -/
theorem mul_recip {s : EReal} (hs : s ≠ 0) (x : EReal) : x * Ideal.div 1 s = Ideal.div x s := by
  unfold Ideal.div
  rw [if_neg hs, if_neg hs, one_mul]

/-- Multiplying by 1/7 is dividing by 7. -/
theorem mul_inv_seven (x : EReal) : x * ((1 / 7 : ℝ) : EReal) = Ideal.div x 7 :=
  (Ideal.div_coe (by norm_num : (7 : ℝ) ≠ 0) x).symm

/-- The scale of a group of largest magnitude `a` under the head's clip ratio `α`. -/
def scale (α a : EReal) : EReal := if a = 0 then 1 else Ideal.div (α * a) 7

theorem scale_ne_zero {α : EReal} (hα : α ≠ 0) (a : EReal) : scale α a ≠ 0 := by
  unfold scale
  split_ifs with h
  · exact one_ne_zero
  · rw [← mul_inv_seven]
    refine mul_ne_zero (mul_ne_zero hα h) ?_
    exact_mod_cast (by norm_num : (1 / 7 : ℝ) ≠ 0)

/-- A finite sum times a nonnegative finite factor is the sum of the products. -/
theorem sum_mul {ι : Type} (t : Finset ι) (f : ι → EReal) {c : EReal} (h0 : 0 ≤ c) (ht : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 ht, ih]

theorem add_mul' (x y : EReal) {c : EReal} (h0 : 0 ≤ c) (ht : c ≠ ⊤) : (x + y) * c = x * c + y * c :=
  EReal.right_distrib_of_nonneg_of_ne_top h0 ht x y

theorem sub_mul' (x y : EReal) {c : EReal} (h0 : 0 ≤ c) (ht : c ≠ ⊤) : (x - y) * c = x * c - y * c := by
  rw [sub_eq_add_neg, sub_eq_add_neg, add_mul' _ _ h0 ht, EReal.neg_mul]

end Cert.Scalar

end
-- ==== Proof.Spec.lean ====
/- The mathematics of one token and one head: the rotation, the quantisation in groups of 32, and the gradients. -/
module

public import proofs.«01_k».proof.Proof.Scalar

@[expose] public section

noncomputable section

open scoped Classical

namespace Cert.Spec

open Idealize.ShloMosaic Cert.Scalar

/-- Two halves of 96 values rotated by the angle of each pair. -/
def rot (x : Fin 96 → EReal) (c s : Fin 48 → EReal) (j : Fin 96) : EReal :=
  if h : j.val < 48 then x j * c ⟨j.val, h⟩ - x ⟨48 + j.val, by omega⟩ * s ⟨j.val, h⟩
  else x j * c ⟨j.val - 48, by omega⟩ + x ⟨j.val - 48, by omega⟩ * s ⟨j.val - 48, by omega⟩

/-- The rotation by the opposite angle. -/
def unrot (x : Fin 96 → EReal) (c s : Fin 48 → EReal) (j : Fin 96) : EReal :=
  if h : j.val < 48 then x j * c ⟨j.val, h⟩ + x ⟨48 + j.val, by omega⟩ * s ⟨j.val, h⟩
  else x j * c ⟨j.val - 48, by omega⟩ - x ⟨j.val - 48, by omega⟩ * s ⟨j.val - 48, by omega⟩

/-- Entry `i` of group `g`. -/
def at32 (g : Fin 3) (i : Fin 32) : Fin 96 := ⟨g.val * 32 + i.val, by omega⟩

/-- The largest magnitude of a group. -/
def amax (r : Fin 96 → EReal) (g : Fin 3) : EReal :=
  Finset.univ.sup fun i : Fin 32 => max (r (at32 g i)) (-r (at32 g i))

variable (x : Fin 96 → EReal) (c s : Fin 48 → EReal) (α : EReal) (d : Fin 96 → EReal) (e : EReal)

/-- The scale of a group. -/
def sc (g : Fin 3) : EReal := scale α (amax (rot x c s) g)

/-- An entry over its group's scale. -/
def ratio (g : Fin 3) (i : Fin 32) : EReal := Ideal.div (rot x c s (at32 g i)) (sc x c s α g)

/-- Its code. -/
def code (g : Fin 3) (i : Fin 32) : EReal := clip (rnd (ratio x c s α g i))

/-- Whether it was not clipped. -/
def inside (g : Fin 3) (i : Fin 32) : Prop := max (ratio x c s α g i) (-ratio x c s α g i) ≤ 7

/-- The derivative of an entry's quantised value by its scale. -/
def term (g : Fin 3) (i : Fin 32) : EReal :=
  if inside x c s α g i then code x c s α g i - ratio x c s α g i else code x c s α g i

/-- The clip ratio's gradient from one group, and from one token and head. -/
def tokG (g : Fin 3) : EReal :=
  (∑ i : Fin 32, d (at32 g i) * e * term x c s α g i) * Ideal.div (amax (rot x c s) g) 7
def tok : EReal := ∑ g : Fin 3, tokG x c s α d e g

/-- The incoming gradient where nothing was clipped. -/
def pass (j : Fin 96) : EReal :=
  if inside x c s α ⟨j.val / 32, by omega⟩ ⟨j.val % 32, by omega⟩ then d j * e else 0

/-- The key's gradient. -/
def dk (j : Fin 96) : EReal := unrot (pass x c s α d e) c s j

end Cert.Spec
-- ==== Proof.Consts.lean ====
/- The constants and comparisons of the two programs as extended reals. -/
module

public import proofs.«01_k».proof.Proof.Spec
public import Idealize.ShloMosaic.Lib.Pipeline.ValueKit

@[expose] public section

noncomputable section

namespace Cert.Consts

open Idealize.ShloMosaic Cert.Scalar

theorem bot_f32 : Ideal.ofBits .f32 0xFF800000#32 = ⊥ := by simp [Ideal.ofBits, Ideal.ieee]
theorem zero_f32 : Ideal.ofBits .f32 0x00000000#32 = 0 := by simp [Ideal.ofBits, Ideal.ieee]
theorem one_f32 : Ideal.ofBits .f32 0x3F800000#32 = 1 := by simp
theorem seven_f32 : Ideal.ofBits .f32 0x40E00000#32 = 7 := by
  simp [Ideal.ofBits, Ideal.ieee]
  refine (congrArg (fun r : ℝ => (r : EReal)) (?_ : _ = (7 : ℝ))).trans rfl
  norm_num
theorem neg_seven_f32 : Ideal.ofBits .f32 0xC0E00000#32 = -7 := by
  simp [Ideal.ofBits, Ideal.ieee]
  refine (congrArg (fun r : ℝ => (r : EReal)) (?_ : _ = (7 : ℝ))).trans rfl
  norm_num
theorem seven_int : (((7#32 : BitVec 32).toInt : ℝ) : EReal) = 7 := by
  have : (7#32 : BitVec 32).toInt = 7 := by decide
  rw [this]; norm_num; rfl
theorem neg_seven_int : (((4294967289#32 : BitVec 32).toInt : ℝ) : EReal) = -7 := by
  have : (4294967289#32 : BitVec 32).toInt = -7 := by decide
  rw [this]; norm_num; rfl

theorem cmp_oeq (a b : EReal) [Decidable (a = b)] : Ideal.cmp .oeq a b = if a = b then 1#1 else 0#1 := by
  unfold Ideal.cmp; by_cases h : a = b <;> simp [h]
theorem cmp_ole (a b : EReal) [Decidable (a ≤ b)] : Ideal.cmp .ole a b = if a ≤ b then 1#1 else 0#1 := by
  unfold Ideal.cmp; by_cases h : a ≤ b <;> simp [h]

theorem select_if {α : Type} (p : Prop) [Decidable p] (a b : α) : Scalar.select (if p then 1#1 else 0#1) a b = if p then a else b := by
  unfold Scalar.select; by_cases h : p <;> simp [h]

theorem sup_eq_fold {ι : Type} (s : Finset ι) (f : ι → EReal) : Finset.fold max ⊥ f s = s.sup f := rfl

end Cert.Consts
-- ==== Proof.Rot.lean ====
/- The rotated block of one grid point: after the block of `k` is transposed and each head of each lane tile is rotated. -/
module

public import proofs.«01_k».proof.Proof.Model
public import proofs.«01_k».proof.Proof.Canon
public import proofs.«01_k».proof.Proof.Consts

@[expose] public section

set_option maxRecDepth 16384

noncomputable section

namespace Cert.Rot

open Idealize.ShloMosaic Idealize.ShloMosaic.TcCoe Cert.Consts
open Cert.KernelIdeal Cert.KernelIdeal.Gen Cert.Model

/-- Lane `l` of tile `t`, and row `j` of head `h`. -/
def tok (t : Fin 2) (l : Fin 128) : Fin 256 := ⟨128 * t.val + l.val, by omega⟩
def hrow (h : Fin 8) (j : Fin 96) : Fin 768 := ⟨96 * h.val + j.val, by omega⟩

variable (kr : Memref sig .tc .vmem S768x256 .f32) (k : Fin 3 → Vec Ideal S1x256x256 .bf16)
  (cos sin : Fin 2 → Vec Ideal S1x48x128 .f32)
  (X : Fin 256 → Fin 768 → EReal) (C S : Fin 256 → Fin 48 → EReal)

/-- What the point reads of `k` and of the two tables. -/
structure Reads : Prop where
  k : ∀ (j : Fin 3) (p r : Fin 256), k j (ix3 0 p r) = X p ⟨256 * j.val + r.val, by omega⟩
  cos : ∀ (t : Fin 2) (i : Fin 48) (l : Fin 128), cos t (ix3 0 i l) = C (tok t l) i
  sin : ∀ (t : Fin 2) (i : Fin 48) (l : Fin 128), sin t (ix3 0 i l) = S (tok t l) i

variable {k cos sin X C S} (H : Reads k cos sin X C S)

/-- A token's head, rotated. -/
abbrev kr' (X : Fin 256 → Fin 768 → EReal) (C S : Fin 256 → Fin 48 → EReal) (t : Fin 2) (l : Fin 128) (h : Fin 8) : Fin 96 → EReal :=
  Spec.rot (fun j => X (tok t l) (hrow h j)) (C (tok t l)) (S (tok t l))

theorem unit_apply (r c : Fin 256) : (k0_pay3 : FVec Ideal S256x256 .bf16) (ix2 r c) = if r = c then 1 else 0 := by
  unfold k0_pay3
  pointwise
  have e : IntOp.cmpi CmpIPredicate.eq (BitVec.ofNat 32 r.val) (BitVec.ofNat 32 c.val) = if r = c then 1#1 else 0#1 := by
    have hr := r.isLt
    have hc := c.isLt
    by_cases h : r = c
    · subst h; simp [IntOp.cmpi]
    · have hv : r.val ≠ c.val := fun e => h (Fin.ext e)
      have hb : BitVec.ofNat 32 r.val ≠ BitVec.ofNat 32 c.val := by
        intro e
        have := congrArg BitVec.toNat e
        rw [BitVec.toNat_ofNat, BitVec.toNat_ofNat, Nat.mod_eq_of_lt (by omega), Nat.mod_eq_of_lt (by omega)] at this
        exact hv this
      rw [if_neg h]; unfold IntOp.cmpi; simp only [beq_eq_false_iff_ne.mpr hb]; rfl
  rw [e, select_if]

theorem chunk_sum (k : Fin 3 → Vec Ideal S1x256x256 .bf16) (j : Fin 3) (r p : Fin 256) :
    chunk k j (ix2 r p) = ∑ c : Fin 256, (k0_pay3 : FVec Ideal S256x256 .bf16) (ix2 r c) * k j (ix3 0 p c) := by
  unfold chunk
  generalize (k0_pay3 : FVec Ideal S256x256 .bf16) = I
  pointwise

include H in
theorem chunk_apply (j : Fin 3) (r p : Fin 256) : chunk k j (ix2 r p) = X p ⟨256 * j.val + r.val, by omega⟩ := by
  rw [chunk_sum, Finset.sum_eq_single r]
  · rw [unit_apply, if_pos rfl, one_mul, H.k]
  · intro c _ hc
    rw [unit_apply, if_neg (Ne.symm hc), zero_mul]
  · intro h
    exact absurd (Finset.mem_univ _) h

include H in
theorem krBase_apply (r : Fin 768) (p : Fin 256) : View.canon (krBase k) (ix2 r p) = X p r := by
  have key : ∀ j : Fin 3, ∀ L : List (View.Piece (Elt Ideal) S768x256 .f32), 256 * j.val ≤ r.val → (hj : r.val < 256 * j.val + 256) →
      View.canon (Val := Elt Ideal) (s := S768x256) (e := .f32) (⟨Rect.unit (s := S768x256) ![256 * j.val, 0] S256x256.size (inb256 j), chunk k j⟩ :: L) (ix2 r p) = X p r := by
    intro j L h1 h2
    have e : (Rect.unit (s := S768x256) ![256 * j.val, 0] S256x256.size (inb256 j)).emb (ix2 (⟨r.val - 256 * j.val, by omega⟩ : Fin 256) p) = (ix2 r p : S768x256.Idx) := by
      funext a
      match a with
      | ⟨0, _⟩ => exact Fin.ext (by show 256 * j.val + 1 * (r.val - 256 * j.val) = r.val; omega)
      | ⟨1, _⟩ => exact Fin.ext (by show 0 + 1 * p.val = p.val; omega)
    rw [← e, View.canon_cons_emb]
    refine (chunk_apply H j _ _).trans ?_
    exact congrArg (X p) (Fin.ext (by show 256 * j.val + (r.val - 256 * j.val) = r.val; omega))
  have miss : ∀ j : Fin 3, ∀ L : List (View.Piece (Elt Ideal) S768x256 .f32), r.val < 256 * j.val →
      View.canon (Val := Elt Ideal) (s := S768x256) (e := .f32) (⟨Rect.unit (s := S768x256) ![256 * j.val, 0] S256x256.size (inb256 j), chunk k j⟩ :: L) (ix2 r p) = View.canon L (ix2 r p) := by
    intro j L h1
    refine View.canon_cons_of_not_mem _ _ fun hm => ?_
    have := ((Rect.mem_set_unit (inb := inb256 j)).mp hm 0).1
    exact absurd (show 256 * j.val ≤ r.val from this) (by omega)
  have hr := r.isLt
  unfold krBase
  by_cases h2 : 512 ≤ r.val
  · exact key 2 _ (by simpa using h2) (by show r.val < 256 * 2 + 256; omega)
  · rw [miss 2 _ (by show r.val < 256 * 2; omega)]
    by_cases h1 : 256 ≤ r.val
    · exact key 1 _ (by simpa using h1) (by show r.val < 256 * 1 + 256; omega)
    · rw [miss 1 _ (by show r.val < 256 * 1; omega)]
      exact key 0 _ (by simp) (by show r.val < 256 * 0 + 256; omega)

theorem rot_apply (x1 x2 c s : V48 Ideal) (x : Fin 96 → EReal) (C S : Fin 48 → EReal) (l : Fin 128)
    (h1 : ∀ i : Fin 48, x1 (ix2 i l) = x ⟨i.val, by omega⟩) (h2 : ∀ i : Fin 48, x2 (ix2 i l) = x ⟨48 + i.val, by omega⟩)
    (hc : ∀ i : Fin 48, c (ix2 i l) = C i) (hs : ∀ i : Fin 48, s (ix2 i l) = S i) (j : Fin 96) :
    Model.rot x1 x2 c s (ix2 j l) = Spec.rot x C S j := by
  unfold Model.rot
  pointwise
  simp only [h1, h2, hc, hs]
  unfold Spec.rot
  split_ifs with hj
  · rfl
  · have e : (⟨48 + (j.val - 48), by omega⟩ : Fin 96) = j := Fin.ext (by simp only; omega)
    rw [e]
  · exact absurd rfl ‹_›

theorem cosT_apply (t : Fin 2) (i : Fin 48) (l : Fin 128) : cosT cos t (ix2 i l) = cos t (ix3 0 i l) := by
  unfold cosT
  pointwise

theorem sinT_apply (t : Fin 2) (i : Fin 48) (l : Fin 128) : sinT sin t (ix2 i l) = sin t (ix3 0 i l) := by
  unfold sinT
  pointwise

theorem idx48 (h : Fin 8) (t : Fin 2) (i : Fin 48) (l : Fin 128) :
    (r48 h t).toLoadRect.idx (ix2 i l) = ix2 (hrow h ⟨i.val, by omega⟩) (tok t l) := by
  funext a
  match a with
  | ⟨0, _⟩ => exact Fin.ext (by show 96 * h.val + 0 + 1 * i.val = 96 * h.val + i.val; omega)
  | ⟨1, _⟩ => exact Fin.ext (by show 128 * t.val + 1 * l.val = 128 * t.val + l.val; omega)

theorem idx48' (h : Fin 8) (t : Fin 2) (i : Fin 48) (l : Fin 128) :
    (r48' h t).toLoadRect.idx (ix2 i l) = ix2 (hrow h ⟨48 + i.val, by omega⟩) (tok t l) := by
  funext a
  match a with
  | ⟨0, _⟩ => exact Fin.ext (by show 96 * h.val + 48 + 1 * i.val = 96 * h.val + (48 + i.val); omega)
  | ⟨1, _⟩ => exact Fin.ext (by show 128 * t.val + 1 * l.val = 128 * t.val + l.val; omega)

theorem emb96 (h : Fin 8) (t : Fin 2) (j : Fin 96) (l : Fin 128) :
    (r96 h t).emb (ix2 j l) = ix2 (hrow h j) (tok t l) := by
  funext a
  match a with
  | ⟨0, _⟩ => exact Fin.ext (by show 96 * h.val + 1 * j.val = 96 * h.val + j.val; omega)
  | ⟨1, _⟩ => exact Fin.ext (by show 128 * t.val + 1 * l.val = 128 * t.val + l.val; omega)

theorem mem96 (h h' : Fin 8) (t t' : Fin 2) (j : Fin 96) (l : Fin 128) (hm : ix2 (hrow h j) (tok t l) ∈ (r96 h' t').set) :
    h = h' ∧ t = t' := by
  have a0 := (Rect.mem_set_unit.mp hm) 0
  have a1 := (Rect.mem_set_unit.mp hm) 1
  have b0 : 96 * h'.val ≤ 96 * h.val + j.val ∧ 96 * h.val + j.val < 96 * h'.val + 96 := a0
  have b1 : 128 * t'.val ≤ 128 * t.val + l.val ∧ 128 * t.val + l.val < 128 * t'.val + 128 := a1
  exact ⟨Fin.ext (by omega), Fin.ext (by omega)⟩

include H in
/-- A head read from stores that leave its rows as they came. -/
theorem rotAt_of (L : List (View.Piece (Elt Ideal) S768x256 .f32)) (h : Fin 8) (t : Fin 2) (l : Fin 128)
    (hL : ∀ j, View.canon L (ix2 (hrow h j) (tok t l)) = X (tok t l) (hrow h j)) (j : Fin 96) :
    rotAt kr cos sin L h t (ix2 j l) = kr' X C S t l h j := by
  unfold rotAt
  refine rot_apply _ _ _ _ (fun j => X (tok t l) (hrow h j)) (C (tok t l)) (S (tok t l)) l ?_ ?_ ?_ ?_ j
  · intro i
    rw [View.readCov_eq_canon']
    show View.canon L ((r48 h t).toLoadRect.idx (ix2 i l)) = _
    rw [idx48, hL]
  · intro i
    rw [View.readCov_eq_canon']
    show View.canon L ((r48' h t).toLoadRect.idx (ix2 i l)) = _
    rw [idx48', hL]
  · intro i
    rw [cosT_apply, H.cos]
  · intro i
    rw [sinT_apply, H.sin]

theorem h8_val (h : Fin 8) (t : Fin 2) : h8 (8 * t.val + h.val) = h := Fin.ext (by show (8 * t.val + h.val) % 8 = h.val; omega)
theorem t2_val (h : Fin 8) (t : Fin 2) : t2 ((8 * t.val + h.val) / 8) = t := Fin.ext (by show (8 * t.val + h.val) / 8 % 2 = t.val; omega)

include H in
theorem krL_apply (n : Nat) (hn : n ≤ 16) (h : Fin 8) (t : Fin 2) (j : Fin 96) (l : Fin 128) :
    View.canon (krL kr k cos sin n) (ix2 (hrow h j) (tok t l))
      = if 8 * t.val + h.val < n then kr' X C S t l h j else X (tok t l) (hrow h j) := by
  induction n generalizing j with
  | zero => rw [if_neg (Nat.not_lt_zero _)]; exact krBase_apply H _ _
  | succ n ih =>
    by_cases e : 8 * t.val + h.val = n
    · subst e
      rw [if_pos (Nat.lt_succ_self _)]
      unfold krL
      rw [h8_val, t2_val, ← emb96, View.canon_cons_emb, shapeCast_id]
      refine rotAt_of kr H _ h t l (fun j => ?_) j
      rw [ih (by omega) j, if_neg (lt_irrefl _)]
    · unfold krL
      rw [View.canon_cons_of_not_mem]
      · rw [ih (by omega) j]
        have : (8 * t.val + h.val < n) ↔ (8 * t.val + h.val < n + 1) := by omega
        simp only [this]
      · intro hm
        obtain ⟨e1, e2⟩ := mem96 _ _ _ _ _ _ hm
        have e1 := congrArg Fin.val e1
        have e2 := congrArg Fin.val e2
        have e1 : h.val = n % 8 := e1
        have e2 : t.val = n / 8 % 2 := e2
        omega

include H in
theorem rotAt_apply (h : Fin 8) (t : Fin 2) (j : Fin 96) (l : Fin 128) :
    rotAt kr cos sin (krL kr k cos sin (8 * t.val + h.val)) h t (ix2 j l) = kr' X C S t l h j := by
  refine rotAt_of kr H _ h t l (fun j => ?_) j
  rw [krL_apply kr H _ (by omega), if_neg (lt_irrefl _)]

theorem idx32 (h : Fin 8) (g : Fin 3) (t : Fin 2) (i : Fin 32) (l : Fin 128) :
    (r32 h g t).toLoadRect.idx (ix2 i l) = ix2 (hrow h (Spec.at32 g i)) (tok t l) := by
  funext a
  match a with
  | ⟨0, _⟩ => exact Fin.ext (by show 96 * h.val + 32 * g.val + 1 * i.val = 96 * h.val + (g.val * 32 + i.val); omega)
  | ⟨1, _⟩ => exact Fin.ext (by show 128 * t.val + 1 * l.val = 128 * t.val + l.val; omega)

include H in
/-- A group of a rotated head, read back. -/
theorem group_apply (h : Fin 8) (g : Fin 3) (t : Fin 2) (i : Fin 32) (l : Fin 128) :
    View.readCov kr.view (krL kr k cos sin (8 * t.val + 8)) (r32 h g t).toLoadRect (ix2 i l) = kr' X C S t l h (Spec.at32 g i) := by
  rw [View.readCov_eq_canon']
  show View.canon _ ((r32 h g t).toLoadRect.idx (ix2 i l)) = _
  rw [idx32, krL_apply kr H _ (by omega), if_pos (by omega)]

theorem maxOf_fold (g : Fin 3) (v : V96 Ideal) (r : Fin 8) (l : Fin 128) :
    maxOf g v (ix2 r l) = Finset.fold max (Ideal.ofBits .f32 4286578688#32)
      (fun c : Fin 4 => FloatOps.absf (v (ix2 (⟨g.val * 32 + (c.val * 8 + r.val), by omega⟩ : Fin 96) l))) Finset.univ := by
  unfold maxOf
  have e : ∀ c : Fin 4, shapeCast S4x8x128 (extractStridedSlice S1x4x8x128 ![g.val, 0, 0, 0] (shapeCast S3x4x8x128 (absf v) shapeCasts_S96x128_S3x4x8x128)
      (slicesG g)) shapeCasts_S1x4x8x128_S4x8x128 (ix3 c r l) = FloatOps.absf (v (ix2 (⟨g.val * 32 + (c.val * 8 + r.val), by omega⟩ : Fin 96) l)) := by
    intro c
    refine (shapeCast_apply _ _ _ (ix4 (0 : Fin 1) c r l) ?_).trans ?_
    · rw [Shape.rowMajor_val_four, Shape.rowMajor_val_three]
      show ((0 * 4 + c.val) * 8 + r.val) * 128 + l.val = (c.val * 8 + r.val) * 128 + l.val
      omega
    show shapeCast S3x4x8x128 (absf v) shapeCasts_S96x128_S3x4x8x128 _ = _
    refine (shapeCast_apply _ _ _ (ix2 (⟨g.val * 32 + (c.val * 8 + r.val), by omega⟩ : Fin 96) l) ?_).trans rfl
    rw [Shape.rowMajor_val_four, Shape.rowMajor_val_two]
    show (g.val * 32 + (c.val * 8 + r.val)) * 128 + l.val = (((g.val + 0) * 4 + (0 + c.val)) * 8 + (0 + r.val)) * 128 + (0 + l.val)
    omega
  generalize shapeCast S4x8x128 (extractStridedSlice S1x4x8x128 ![g.val, 0, 0, 0] (shapeCast S3x4x8x128 (absf v) shapeCasts_S96x128_S3x4x8x128)
      (slicesG g)) shapeCasts_S1x4x8x128_S4x8x128 = w at e ⊢
  pointwise
  simp only [e]

end Cert.Rot
-- ==== Proof.Slab.lean ====
/- The staging rows: partial results of eight heads stored with stride nine and read back transposed, so that
   combining the eight rows combines each head's eight sublanes. -/
module

public import proofs.«01_k».proof.Proof.Model
public import proofs.«01_k».proof.Proof.Canon

@[expose] public section

set_option maxRecDepth 16384

noncomputable section

namespace Cert.Slab

open Idealize.ShloMosaic Idealize.ShloMosaic.TcCoe
open Cert.KernelIdeal Cert.KernelIdeal.Gen Cert.Model

variable (slab : Memref sig .tc .vmem S2x3x71x128 .f32) (B : List (View.Piece (Elt Ideal) S2x3x71x128 .f32))
  (t : Fin 2) (P : Fin 3 → Fin 8 → V8 Ideal)

/-- The piece stored as number `n`. -/
def pieceAt (g : Fin 3) (h : Fin 8) (v : V8 Ideal) : View.Piece (Elt Ideal) S2x3x71x128 .f32 :=
  ⟨laneAt t g h, Rect.payAlong (numelLane h) (shapeCast S8x128 v shapeCasts_S8x128_S8x128)⟩
def piece (n : Nat) : View.Piece (Elt Ideal) S2x3x71x128 .f32 := pieceAt t (g3 (n / 8)) (h8 n) (P (g3 (n / 8)) (h8 n))

def at4 (g : Fin 3) (j h : Fin 8) (l : Fin 128) : S2x3x71x128.Idx :=
  ix4 t g (⟨9 * j.val + h.val, by omega⟩ : Fin 71) l

theorem emb_lane (g : Fin 3) (j h : Fin 8) (l : Fin 128) :
    (laneAt t g h).emb (ix4 (0 : Fin 1) (0 : Fin 1) j l) = at4 t g j h l := by
  funext a
  match a with
  | ⟨0, _⟩ => exact Fin.ext (by show t.val + 0 + 1 * 0 = t.val; omega)
  | ⟨1, _⟩ => exact Fin.ext (by show g.val + 0 + 1 * 0 = g.val; omega)
  | ⟨2, _⟩ => exact Fin.ext (by show 0 + h.val + 9 * j.val = 9 * j.val + h.val; omega)
  | ⟨3, _⟩ => exact Fin.ext (by show 0 + 0 + 1 * l.val = l.val; omega)

theorem pay_lane (h : Fin 8) (v : V8 Ideal) (j : Fin 8) (l : Fin 128) :
    Rect.payAlong (r := lane h) (R := laneIn h) (numelLane h) v (ix4 (0 : Fin 1) (0 : Fin 1) j l) = v (ix2 j l) := by
  refine congrArg v (Shape.reshapeEquiv_eq_of_rowMajor _ ?_)
  refine Eq.trans (Shape.rowMajor_val_two _) (Eq.trans ?_ (Shape.rowMajor_val_four (d := ![1, 1, 8, 128]) _).symm)
  show j.val * 128 + l.val = ((0 * 1 + 0) * 8 + j.val) * 128 + l.val
  omega

theorem idx_row (g : Fin 3) (j h : Fin 8) (l : Fin 128) :
    (rowAt t g j).idx (ix4 (0 : Fin 1) (0 : Fin 1) h l) = at4 t g j h l := by
  funext a
  match a with
  | ⟨0, _⟩ => exact Fin.ext (by show t.val + 0 + 1 * 0 = t.val; omega)
  | ⟨1, _⟩ => exact Fin.ext (by show g.val + 0 + 1 * 0 = g.val; omega)
  | ⟨2, _⟩ => exact Fin.ext (by show 0 + 9 * j.val + 1 * h.val = 9 * j.val + h.val; omega)
  | ⟨3, _⟩ => exact Fin.ext (by show 0 + 0 + 1 * l.val = l.val; omega)

theorem val_row (j : Fin 8) (v : (rowIn j).shape.Idx → EReal) (h : Fin 8) (l : Fin 128) :
    LoadRect.valAlong (numelRow j) v (ix2 h l) = v (ix4 (0 : Fin 1) (0 : Fin 1) h l) := by
  refine congrArg v (Shape.reshapeEquiv_eq_of_rowMajor _ ?_)
  refine Eq.trans (Shape.rowMajor_val_four (d := ![1, 1, 8, 128]) _) (Eq.trans ?_ (Shape.rowMajor_val_two (d := ![8, 128]) _).symm)
  show ((0 * 1 + 0) * 8 + h.val) * 128 + l.val = h.val * 128 + l.val
  omega

theorem not_mem (g : Fin 3) (j h : Fin 8) (l : Fin 128) (h' : Fin 8) (g' : Fin 3) (hh : h' ≠ h) :
    at4 t g j h l ∉ (laneAt t g' h').set := by
  intro hm
  obtain ⟨x, hx, e⟩ := ((laneAt t g' h').mem_set.mp hm) 2
  have hx : x < 8 := hx
  have e : 9 * j.val + h.val = 0 + h'.val + 9 * x := e
  exact hh (Fin.ext (by omega))

theorem canon_piece (g : Fin 3) (j h : Fin 8) (l : Fin 128) (v : V8 Ideal) (L : List (View.Piece (Elt Ideal) S2x3x71x128 .f32)) :
    View.canon (pieceAt t g h v :: L) (at4 t g j h l) = v (ix2 j l) := by
  rw [← emb_lane]
  refine (View.canon_cons_emb _ _ _ _).trans ((pay_lane h _ j l).trans ?_)
  rw [shapeCast_id]

theorem slabRow_apply (g : Fin 3) (j h : Fin 8) (l : Fin 128) :
    slabRow slab (slabSeg B t P (8 * g.val + 8)) t g j (ix2 h l) = P g h (ix2 j l) := by
  unfold slabRow
  refine (val_row j _ h l).trans ?_
  rw [View.readCov_eq_canon']
  show View.canon (slabSeg B t P (8 * g.val + 8)) ((rowAt t g j).idx (ix4 (0 : Fin 1) (0 : Fin 1) h l)) = _
  rw [idx_row]
  have hg : g3 ((8 * g.val + h.val) / 8) = g := Fin.ext (by show (8 * g.val + h.val) / 8 % 3 = g.val; omega)
  have hh : h8 (8 * g.val + h.val) = h := Fin.ext (by show (8 * g.val + h.val) % 8 = h.val; omega)
  refine (Canon.skip (slabSeg B t P) (piece t P) (fun _ => rfl) _ (8 * g.val + h.val + 1) (8 * g.val + 8) (by omega) ?_).trans ?_
  · intro i h1 h2
    refine not_mem t g j h l (h8 i) _ fun e => ?_
    have e : i % 8 = h.val := congrArg Fin.val e
    omega
  · show View.canon (piece t P (8 * g.val + h.val) :: _) _ = _
    unfold piece
    rw [hg, hh, canon_piece]

theorem fold_max (g : Fin 3) (h : Fin 8) (l : Fin 128) :
    Model.fold slab maximumf B t P g (ix2 h l) = Finset.univ.sup fun j : Fin 8 => P g h (ix2 j l) := by
  unfold Model.fold tree
  simp only [ValueIdx.maximumf_apply, slabRow_apply]
  have le : ∀ j : Fin 8, P g h (ix2 j l) ≤ Finset.univ.sup fun j : Fin 8 => P g h (ix2 j l) := fun j =>
    Finset.le_sup (f := fun j : Fin 8 => P g h (ix2 j l)) (Finset.mem_univ j)
  refine le_antisymm ?_ (Finset.sup_le fun j _ => ?_)
  · exact max_le (max_le (max_le (le 0) (le 1)) (max_le (le 2) (le 3))) (max_le (max_le (le 4) (le 5)) (max_le (le 6) (le 7)))
  · fin_cases j <;> simp

theorem fold_add (g : Fin 3) (h : Fin 8) (l : Fin 128) :
    Model.fold slab addf B t P g (ix2 h l) = ∑ j : Fin 8, P g h (ix2 j l) := by
  unfold Model.fold tree
  simp only [ValueIdx.addf_apply, slabRow_apply]
  rw [Fin.sum_univ_eight]
  ac_rfl

end Cert.Slab
-- ==== Proof.Quant.lean ====
/- The scales, codes, gradients and sums of one grid point, element by element. -/
module

public import proofs.«01_k».proof.Proof.Rot
public import proofs.«01_k».proof.Proof.Slab

@[expose] public section

set_option maxRecDepth 16384

noncomputable section

namespace Cert.Quant

open Idealize.ShloMosaic Idealize.ShloMosaic.TcCoe Cert.Consts Cert.Scalar
open Cert.KernelIdeal Cert.KernelIdeal.Gen Cert.Model Cert.Rot

variable (kr : Memref sig .tc .vmem S768x256 .f32) (slab : Memref sig .tc .vmem S2x3x71x128 .f32)
  (rs : Memref sig .tc .vmem S2x3x8x128 .f32)
  (k : Fin 3 → Vec Ideal S1x256x256 .bf16) (cos sin : Fin 2 → Vec Ideal S1x48x128 .f32) (alpha : Vec Ideal S8x128 .f32)
  (code : Fin 2 → Fin 8 → Fin 3 → Vec Ideal S1x32x128 .fp8e5m2) (row : Fin 2 → Fin 8 → Vec Ideal S1x1x128 .f32)
  (tile : Fin 2 → Vec Ideal S1x8x128 .f32)
  (B : List (View.Piece (Elt Ideal) S2x3x71x128 .f32)) (R : List (View.Piece (Elt Ideal) S2x3x8x128 .f32))
  (X : Fin 256 → Fin 768 → EReal) (C S : Fin 256 → Fin 48 → EReal) (A : Fin 8 → EReal)
  (D : Fin 256 → Fin 768 → EReal) (E : Fin 256 → Fin 8 → EReal)

/-- What the point reads of its six operands. -/
structure Point : Prop extends Reads k cos sin X C S where
  alpha : ∀ (h : Fin 8) (l : Fin 128), alpha (ix2 h l) = A h
  alpha_ne : ∀ h : Fin 8, A h ≠ 0
  code : ∀ (t : Fin 2) (h : Fin 8) (g : Fin 3) (i : Fin 32) (l : Fin 128), code t h g (ix3 0 i l) = D (tok t l) (hrow h (Spec.at32 g i))
  row : ∀ (t : Fin 2) (h : Fin 8) (l : Fin 128), row t h (ix3 0 0 l) = E (tok t l) h
  tile : ∀ (t : Fin 2) (h : Fin 8) (l : Fin 128), tile t (ix3 0 h l) = E (tok t l) h
  nonneg : ∀ l h, 0 ≤ E l h
  finite : ∀ l h, E l h < ⊤

variable {k cos sin alpha code row tile X C S A D E} (H : Point k cos sin alpha code row tile X C S A D E)

/-- A head's row of the block, of the incoming gradient. -/
abbrev xr (X : Fin 256 → Fin 768 → EReal) (l : Fin 256) (h : Fin 8) (j : Fin 96) : EReal := X l (hrow h j)

include H in
theorem maxP_apply (t : Fin 2) (g : Fin 3) (h r : Fin 8) (l : Fin 128) :
    maxP kr k cos sin t g h (ix2 r l) = Finset.univ.sup fun c : Fin 4 =>
      max (kr' X C S t l h (Spec.at32 g ⟨c.val * 8 + r.val, by omega⟩)) (-(kr' X C S t l h (Spec.at32 g ⟨c.val * 8 + r.val, by omega⟩))) := by
  unfold maxP
  rw [maxOf_fold, bot_f32]
  refine congrArg (fun f => Finset.fold max ⊥ f Finset.univ) (funext fun c => ?_)
  rw [rotAt_apply kr H.toReads]
  rfl

include H in
theorem amax_apply (t : Fin 2) (g : Fin 3) (h : Fin 8) (l : Fin 128) :
    Model.amax kr slab k cos sin B t g (ix2 h l) = Spec.amax (kr' X C S t l h) g := by
  unfold Model.amax
  rw [Slab.fold_max]
  simp only [maxP_apply kr H]
  unfold Spec.amax
  refine le_antisymm (Finset.sup_le fun r _ => Finset.sup_le fun c _ => ?_) (Finset.sup_le fun i _ => ?_)
  · exact Finset.le_sup (f := fun i : Fin 32 => max (kr' X C S t l h (Spec.at32 g i)) (-(kr' X C S t l h (Spec.at32 g i)))) (Finset.mem_univ _)
  · have e : i = ⟨(⟨i.val / 8, by omega⟩ : Fin 4).val * 8 + (⟨i.val % 8, by omega⟩ : Fin 8).val, by simp only; omega⟩ :=
      Fin.ext (by simp only; omega)
    refine le_trans ?_ (Finset.le_sup (Finset.mem_univ (⟨i.val % 8, by omega⟩ : Fin 8)))
    refine le_trans ?_ (Finset.le_sup (Finset.mem_univ (⟨i.val / 8, by omega⟩ : Fin 4)))
    rw [← e]

theorem inv_seven : (Named.named κ "inv_qmax" 0x3E124925#32 : Ideal .f32) = ((1 / 7 : ℝ) : EReal) :=
  IdealRules.named_const.ideal_named_scalar _ _ _ _ rfl

theorem sOf_apply (alpha a : V8 Ideal) (j : S8x128.Idx) : sOf alpha a j = scale (alpha j) (a j) := by
  show Scalar.select (Ideal.cmp .oeq (a j) (Ideal.ofBits .f32 0x00000000#32)) (Ideal.ofBits .f32 0x3F800000#32)
    (alpha j * a j * (Named.named κ "inv_qmax" 0x3E124925#32 : Ideal .f32)) = _
  rw [zero_f32, one_f32, inv_seven, mul_inv_seven, cmp_oeq, select_if]
  unfold scale
  congr

include H in
theorem sV_apply (t : Fin 2) (g : Fin 3) (h : Fin 8) (l : Fin 128) :
    sV kr slab k cos sin alpha B t g (ix2 h l) = Spec.sc (xr X (tok t l) h) (C (tok t l)) (S (tok t l)) (A h) g := by
  unfold sV
  rw [sOf_apply, amax_apply kr slab B H, H.alpha]
  rfl

include H in
theorem a7_apply (t : Fin 2) (g : Fin 3) (h : Fin 8) (l : Fin 128) :
    a7 kr slab k cos sin B t g (ix2 h l) = Ideal.div (Spec.amax (kr' X C S t l h) g) 7 := by
  unfold a7
  rw [ValueIdx.mulf_apply, amax_apply kr slab B H, ValueIdx.broadcast_apply, inv_seven, mul_inv_seven]

theorem rs_not_mem (t : Fin 2) (g g' : Fin 3) (hg : g' ≠ g) (h : Fin 8) (l : Fin 128) :
    (ix4 t g h l : S2x3x8x128.Idx) ∉ (rsPiece kr slab k cos sin alpha B t g').1.set := by
  intro hm
  have hm := (Rect.mem_set_unit (inb := inbRs t g')).mp hm 1
  have hm : g'.val ≤ g.val ∧ g.val < g'.val + 1 := hm
  exact hg (Fin.ext (by omega))

theorem rs_emb (t : Fin 2) (g : Fin 3) (h : Fin 8) (l : Fin 128) :
    (rsPiece kr slab k cos sin alpha B t g).1.emb (ix4 (0 : Fin 1) (0 : Fin 1) h l) = (ix4 t g h l : S2x3x8x128.Idx) := by
  funext a
  match a with
  | ⟨0, _⟩ => exact Fin.ext (by show t.val + 1 * 0 = t.val; omega)
  | ⟨1, _⟩ => exact Fin.ext (by show g.val + 1 * 0 = g.val; omega)
  | ⟨2, _⟩ => exact Fin.ext (by show 0 + 1 * h.val = h.val; omega)
  | ⟨3, _⟩ => exact Fin.ext (by show 0 + 1 * l.val = l.val; omega)

include H in
theorem rsPiece_apply (t : Fin 2) (g : Fin 3) (h : Fin 8) (l : Fin 128) (L : List (View.Piece (Elt Ideal) S2x3x8x128 .f32)) :
    View.canon (rsPiece kr slab k cos sin alpha B t g :: L) (ix4 t g h l)
      = Ideal.div 1 (Spec.sc (xr X (tok t l) h) (C (tok t l)) (S (tok t l)) (A h) g) := by
  rw [← rs_emb (k := k) (cos := cos) (sin := sin) (alpha := alpha) kr slab B t g h l]
  refine (View.canon_cons_emb _ _ _ _).trans ?_
  refine (shapeCast_apply _ _ _ (ix2 h l) ?_).trans ?_
  · rw [Shape.rowMajor_val_two]
    refine Eq.trans ?_ (Shape.rowMajor_val_four (d := ![1, 1, 8, 128]) _).symm
    show h.val * 128 + l.val = ((0 * 1 + 0) * 8 + h.val) * 128 + l.val
    omega
  rw [ValueIdx.divf_apply, sV_apply kr slab B H]
  exact congrArg (fun z => Ideal.div z _) one_f32

include H in
theorem rsSeg_apply (t : Fin 2) (g : Fin 3) (h : Fin 8) (l : Fin 128) :
    View.canon (rsSeg kr slab k cos sin alpha B R t) (ix4 t g h l)
      = Ideal.div 1 (Spec.sc (xr X (tok t l) h) (C (tok t l)) (S (tok t l)) (A h) g) := by
  unfold rsSeg
  by_cases h2 : g = 2
  · subst h2; exact rsPiece_apply kr slab B H t 2 h l _
  · rw [View.canon_cons_of_not_mem _ _ (rs_not_mem kr slab B t g 2 (Ne.symm h2) h l)]
    by_cases h1 : g = 1
    · subst h1; exact rsPiece_apply kr slab B H t 1 h l _
    · rw [View.canon_cons_of_not_mem _ _ (rs_not_mem kr slab B t g 1 (Ne.symm h1) h l)]
      have h0 : g = 0 := by
        have : g.val ≠ 2 := fun e => h2 (Fin.ext e)
        have : g.val ≠ 1 := fun e => h1 (Fin.ext e)
        exact Fin.ext (by show g.val = 0; omega)
      subst h0; exact rsPiece_apply kr slab B H t 0 h l _

theorem spread_row {α : Type} (v : S1x1x1x128.Idx → α) (i : Fin 32) (l : Fin 128) :
    broadcastTo S32x128 (shapeCast S1x128 v shapeCasts_S1x1x1x128_S1x128) broadcasts_S1x128_S32x128 (ix2 i l) = v (ix4 0 0 0 l) := by
  pointwise

theorem rs_idx (t : Fin 2) (g : Fin 3) (h : Fin 8) (l : Fin 128) :
    (Rect.unit (s := S2x3x8x128) ![t.val, g.val, h.val, 0] S1x1x1x128.size (inbRs1 t g h)).toLoadRect.idx (ix4 (0 : Fin 1) (0 : Fin 1) (0 : Fin 1) l) = (ix4 t g h l : S2x3x8x128.Idx) := by
  funext a
  match a with
  | ⟨0, _⟩ => exact Fin.ext (by show t.val + 1 * 0 = t.val; omega)
  | ⟨1, _⟩ => exact Fin.ext (by show g.val + 1 * 0 = g.val; omega)
  | ⟨2, _⟩ => exact Fin.ext (by show h.val + 1 * 0 = h.val; omega)
  | ⟨3, _⟩ => exact Fin.ext (by show 0 + 1 * l.val = l.val; omega)

include H in
theorem q_apply (t : Fin 2) (h : Fin 8) (g : Fin 3) (i : Fin 32) (l : Fin 128) :
    q kr slab rs k cos sin alpha B R t h g (ix2 i l)
      = Spec.ratio (xr X (tok t l) h) (C (tok t l)) (S (tok t l)) (A h) g i := by
  unfold q
  rw [ValueIdx.mulf_apply, spread_row, View.readCov_eq_canon' rs.view]
  have e := rs_idx t g h l
  have e' := group_apply kr H.toReads h g t i l
  refine Eq.trans (congrArg₂ (· * ·) e' (Eq.trans (congrArg (View.canon (rsSeg kr slab k cos sin alpha B R t)) e) (rsSeg_apply kr slab B R H t g h l))) ?_
  exact mul_recip (scale_ne_zero (H.alpha_ne h) _) _

theorem clipped_apply (v : V32 Ideal) (j : S32x128.Idx) : clipped v j = clip (v j) := by
  show min (Ideal.ofBits .f32 0x40E00000#32) (max (Ideal.ofBits .f32 0xC0E00000#32) (v j)) = _
  rw [seven_f32, neg_seven_f32]
  rfl

theorem codeOf_apply (v : V32 Ideal) (j : S32x128.Idx) : codeOf v j = clip (rnd (v j)) := by
  show rnd (clipped v j) = _
  rw [clipped_apply, rnd_clip]

open scoped Classical in
theorem inside_apply (v : V32 Ideal) (j : S32x128.Idx) : Model.inside v j = if max (v j) (-(v j)) ≤ 7 then 1#1 else 0#1 := by
  show Ideal.cmp .oeq (clipped v j) (v j) = _
  rw [cmp_oeq, clipped_apply]
  simp only [clip_eq_self]

theorem grad_apply' (t : Fin 2) (h : Fin 8) (g : Fin 3) (i : Fin 32) (l : Fin 128) :
    grad code t h g (ix2 i l) = code t h g (ix3 0 i l) := by
  unfold grad
  pointwise

include H in
theorem grad_apply (t : Fin 2) (h : Fin 8) (g : Fin 3) (i : Fin 32) (l : Fin 128) :
    grad code t h g (ix2 i l) = D (tok t l) (hrow h (Spec.at32 g i)) := by
  rw [grad_apply', H.code]

theorem zero32_apply (j : S32x128.Idx) : (zero32 : V32 Ideal) j = 0 := zero_f32

theorem sub_zero' (x : EReal) : x - 0 = x := by simp

/-- Eight sublanes of the sum of one group. -/
theorem sumOf_apply (v gr : V32 Ideal) (r : Fin 8) (l : Fin 128) :
    sumOf v gr (ix2 r l) = ∑ c : Fin 4, mulf gr (subf (codeOf v) (select (Model.inside v) v zero32)) (ix2 (⟨c.val * 8 + r.val, by omega⟩ : Fin 32) l) := by
  unfold sumOf
  generalize mulf gr (subf (codeOf v) (select (Model.inside v) v zero32)) = w
  pointwise

include H in
theorem term_apply (t : Fin 2) (h : Fin 8) (g : Fin 3) (i : Fin 32) (l : Fin 128) :
    mulf (grad code t h g) (subf (codeOf (q kr slab rs k cos sin alpha B R t h g))
        (select (Model.inside (q kr slab rs k cos sin alpha B R t h g)) (q kr slab rs k cos sin alpha B R t h g) zero32)) (ix2 i l)
      = D (tok t l) (hrow h (Spec.at32 g i)) * Spec.term (xr X (tok t l) h) (C (tok t l)) (S (tok t l)) (A h) g i := by
  rw [ValueIdx.mulf_apply, ValueIdx.subf_apply, ValueIdx.select_apply, codeOf_apply, inside_apply, q_apply kr slab rs B R H, grad_apply H, select_if, zero32_apply]
  unfold Spec.term Spec.code Spec.inside
  split_ifs
  · rfl
  · rw [sub_zero']

include H in
theorem termV_apply (t : Fin 2) (g : Fin 3) (h : Fin 8) (l : Fin 128) :
    termV kr slab rs k cos sin alpha code B R t g (ix2 h l)
      = ∑ i : Fin 32, D (tok t l) (hrow h (Spec.at32 g i)) * Spec.term (xr X (tok t l) h) (C (tok t l)) (S (tok t l)) (A h) g i := by
  unfold termV
  rw [Slab.fold_add]
  unfold sumP
  simp only [sumOf_apply, term_apply kr slab rs B R H]
  rw [← Fintype.sum_prod_type']
  refine Fintype.sum_equiv ⟨fun p : Fin 8 × Fin 4 => (⟨p.2.val * 8 + p.1.val, by omega⟩ : Fin 32),
    fun i => (⟨i.val % 8, by omega⟩, ⟨i.val / 8, by omega⟩), fun p => ?_, fun i => ?_⟩ _ _ fun p => rfl
  · exact Prod.ext (Fin.ext (by simp only; omega)) (Fin.ext (by simp only; omega))
  · exact Fin.ext (by simp only; omega)

end Cert.Quant
-- ==== Proof.Grad.lean ====
/- The two gradients of one grid point, element by element. -/
module

public import proofs.«01_k».proof.Proof.Quant

@[expose] public section

set_option maxRecDepth 16384

noncomputable section

namespace Cert.Grad

open Idealize.ShloMosaic Idealize.ShloMosaic.TcCoe Cert.Consts Cert.Scalar
open Cert.KernelIdeal Cert.KernelIdeal.Gen Cert.Model Cert.Rot Cert.Quant

variable (kr : Memref sig .tc .vmem S768x256 .f32) (slab : Memref sig .tc .vmem S2x3x71x128 .f32)
  (rs : Memref sig .tc .vmem S2x3x8x128 .f32)
  {k : Fin 3 → Vec Ideal S1x256x256 .bf16} {cos sin : Fin 2 → Vec Ideal S1x48x128 .f32} {alpha : Vec Ideal S8x128 .f32}
  {code : Fin 2 → Fin 8 → Fin 3 → Vec Ideal S1x32x128 .fp8e5m2} {row : Fin 2 → Fin 8 → Vec Ideal S1x1x128 .f32}
  {tile : Fin 2 → Vec Ideal S1x8x128 .f32}
  (B : List (View.Piece (Elt Ideal) S2x3x71x128 .f32)) (R : List (View.Piece (Elt Ideal) S2x3x8x128 .f32))
  {X : Fin 256 → Fin 768 → EReal} {C S : Fin 256 → Fin 48 → EReal} {A : Fin 8 → EReal}
  {D : Fin 256 → Fin 768 → EReal} {E : Fin 256 → Fin 8 → EReal}
  (H : Point k cos sin alpha code row tile X C S A D E)

theorem flat_tile (v : Vec Ideal S1x8x128 .f32) (h : Fin 8) (l : Fin 128) :
    shapeCast S8x128 v shapeCasts_S1x8x128_S8x128 (ix2 h l) = v (ix3 0 h l) := by
  pointwise

include H in
theorem tokG_apply (t : Fin 2) (g : Fin 3) (h : Fin 8) (l : Fin 128) :
    tokG kr slab rs k cos sin alpha code tile B R t g (ix2 h l)
      = Spec.tokG (xr X (tok t l) h) (C (tok t l)) (S (tok t l)) (A h) (xr D (tok t l) h) (E (tok t l) h) g := by
  unfold Model.tokG
  rw [ValueIdx.mulf_apply, ValueIdx.mulf_apply, termV_apply kr slab rs B R H, flat_tile, H.tile, a7_apply kr slab B H,
    sum_mul _ _ (H.nonneg _ _) (H.finite _ _).ne]
  unfold Spec.tokG
  refine congrArg (fun z => z * _) (Finset.sum_congr rfl fun i _ => ?_)
  exact mul_right_comm _ _ _

include H in
theorem tok_apply (t : Fin 2) (h : Fin 8) (l : Fin 128) :
    Model.tok kr slab rs k cos sin alpha code tile B R t (ix2 h l)
      = Spec.tok (xr X (tok t l) h) (C (tok t l)) (S (tok t l)) (A h) (xr D (tok t l) h) (E (tok t l) h) := by
  unfold Model.tok Spec.tok
  rw [ValueIdx.addf_apply, ValueIdx.addf_apply, tokG_apply kr slab rs B R H, tokG_apply kr slab rs B R H,
    tokG_apply kr slab rs B R H, Fin.sum_univ_three]

open scoped Classical in
/-- The incoming codes where nothing was clipped. -/
def kept (x : Fin 96 → EReal) (c s : Fin 48 → EReal) (α : EReal) (d : Fin 96 → EReal) (j : Fin 96) : EReal :=
  if Spec.inside x c s α ⟨j.val / 32, by omega⟩ ⟨j.val % 32, by omega⟩ then d j else 0

include H in
theorem dg_apply (t : Fin 2) (h : Fin 8) (g : Fin 3) (i : Fin 32) (l : Fin 128) :
    dg kr slab rs k cos sin alpha code B R t h g (ix2 i l)
      = kept (xr X (tok t l) h) (C (tok t l)) (S (tok t l)) (A h) (xr D (tok t l) h) (Spec.at32 g i) := by
  unfold dg
  rw [ValueIdx.select_apply, inside_apply, q_apply kr slab rs B R H, grad_apply H, select_if, zero32_apply]
  unfold kept Spec.inside
  have e1 : (⟨(Spec.at32 g i).val / 32, by omega⟩ : Fin 3) = g := Fin.ext (by simp only [Spec.at32]; omega)
  have e2 : (⟨(Spec.at32 g i).val % 32, by omega⟩ : Fin 32) = i := Fin.ext (by simp only [Spec.at32]; omega)
  rw [e1, e2]
  congr

/-- Three groups of thirty-two rows, stacked. -/
theorem stack_apply (f : Fin 3 → V32 Ideal) (p : Fin 96 → EReal) (l : Fin 128)
    (hf : ∀ g i, f g (ix2 i l) = p (Spec.at32 g i)) (j : Fin 96) :
    concatenate S96x128 0 [⟨S32x128, f 0⟩, ⟨S32x128, f 1⟩, ⟨S32x128, f 2⟩] concatenates_S32x128_S32x128_S32x128_S96x128_d0 (ix2 j l) = p j := by
  have h0 := hf 0
  have h1 := hf 1
  have h2 := hf 2
  generalize f 0 = f0 at *
  generalize f 1 = f1 at *
  generalize f 2 = f2 at *
  pointwise
  split_ifs <;> first
    | exact (h0 _).trans (congrArg p (Fin.ext (by show 0 * 32 + j.val = j.val; omega)))
    | exact (h1 _).trans (congrArg p (Fin.ext (by show 1 * 32 + (j.val - 32) = j.val; omega)))
    | exact (h2 _).trans (congrArg p (Fin.ext (by show 2 * 32 + (j.val - 32 - 32) = j.val; omega)))
    | exact absurd rfl ‹_›

include H in
theorem dgAll_apply (t : Fin 2) (h : Fin 8) (j : Fin 96) (l : Fin 128) :
    dgAll kr slab rs k cos sin alpha code B R t h (ix2 j l)
      = kept (xr X (tok t l) h) (C (tok t l)) (S (tok t l)) (A h) (xr D (tok t l) h) j := by
  unfold dgAll
  exact stack_apply (fun g => dg kr slab rs k cos sin alpha code B R t h g) _ l (fun g i => dg_apply kr slab rs B R H t h g i l) j

theorem unrot_apply (x1 x2 c s : V48 Ideal) (x : Fin 96 → EReal) (C S : Fin 48 → EReal) (l : Fin 128)
    (h1 : ∀ i : Fin 48, x1 (ix2 i l) = x ⟨i.val, by omega⟩) (h2 : ∀ i : Fin 48, x2 (ix2 i l) = x ⟨48 + i.val, by omega⟩)
    (hc : ∀ i : Fin 48, c (ix2 i l) = C i) (hs : ∀ i : Fin 48, s (ix2 i l) = S i) (j : Fin 96) :
    Model.unrot x1 x2 c s (ix2 j l) = Spec.unrot x C S j := by
  unfold Model.unrot
  pointwise
  simp only [h1, h2, hc, hs]
  unfold Spec.unrot
  split_ifs with hj
  · rfl
  · have e : (⟨48 + (j.val - 48), by omega⟩ : Fin 96) = j := Fin.ext (by simp only; omega)
    rw [e]
  · exact absurd rfl ‹_›

theorem low_half (v : V96 Ideal) (i : Fin 48) (l : Fin 128) :
    extractStridedSlice S48x128 ![0, 0] v slices_S96x128_o0_0_S48x128 (ix2 i l) = v (ix2 (⟨i.val, by omega⟩ : Fin 96) l) := by
  pointwise

theorem high_half (v : V96 Ideal) (i : Fin 48) (l : Fin 128) :
    extractStridedSlice S48x128 ![48, 0] v slices_S96x128_o48_0_S48x128 (ix2 i l) = v (ix2 (⟨48 + i.val, by omega⟩ : Fin 96) l) := by
  pointwise

theorem spread_scale (v : Vec Ideal S1x1x128 .f32) (j : Fin 96) (l : Fin 128) :
    (broadcastTo S96x128 (truncf (F := Ideal) .bf16 (shapeCast S1x128 v shapeCasts_S1x1x128_S1x128) bitsLt_bf16_f32) broadcasts_S1x128_S96x128 : FVec Ideal S96x128 .bf16) (ix2 j l)
      = (v (ix3 0 0 l) : EReal) := by
  pointwise

/-- A nonnegative finite factor may be applied before the rotation is undone. -/
theorem unrot_mul (p : Fin 96 → EReal) (c s : Fin 48 → EReal) {e : EReal} (h0 : 0 ≤ e) (ht : e ≠ ⊤) (j : Fin 96) :
    Spec.unrot p c s j * e = Spec.unrot (fun j => p j * e) c s j := by
  unfold Spec.unrot
  split_ifs
  · rw [add_mul' _ _ h0 ht, mul_right_comm, mul_right_comm (p _) (s _)]
  · rw [sub_mul' _ _ h0 ht, mul_right_comm, mul_right_comm (p _) (s _)]

theorem kept_mul (x : Fin 96 → EReal) (c s : Fin 48 → EReal) (α : EReal) (d : Fin 96 → EReal) (e : EReal) :
    (fun j => kept x c s α d j * e) = Spec.pass x c s α d e := by
  funext j
  unfold kept Spec.pass
  split_ifs
  · rfl
  · exact zero_mul e

include H in
theorem dkV_apply (t : Fin 2) (h : Fin 8) (j : Fin 96) (l : Fin 128) :
    dkV kr slab rs k cos sin alpha code row B R t h (ix2 j l)
      = Spec.dk (xr X (tok t l) h) (C (tok t l)) (S (tok t l)) (A h) (xr D (tok t l) h) (E (tok t l) h) j := by
  unfold dkV
  rw [ValueIdx.mulf_apply, spread_scale, H.row]
  unfold Spec.dk
  rw [← kept_mul, ← unrot_mul _ _ _ (H.nonneg _ _) (H.finite _ _).ne]
  refine congrArg (fun z => z * _) ?_
  refine unrot_apply _ _ _ _ _ _ _ l (fun i => ?_) (fun i => ?_) (fun i => ?_) (fun i => ?_) j
  · rw [low_half, dgAll_apply kr slab rs B R H]
  · rw [high_half, dgAll_apply kr slab rs B R H]
  · rw [cosT_apply, H.cos]
  · rw [sinT_apply, H.sin]

end Cert.Grad
-- ==== Proof.Block.lean ====
/- What one grid point stores into its output blocks and its eight rows of the carried sum, element by element. -/
module

public import proofs.«01_k».proof.Proof.Grad
public import proofs.«01_k».proof.Proof.Canon

@[expose] public section

set_option maxRecDepth 16384

noncomputable section

namespace Cert.Block

open Idealize.ShloMosaic Idealize.ShloMosaic.TcCoe
open Cert.KernelIdeal Cert.KernelIdeal.Gen Cert.Model Cert.Rot Cert.Quant

variable (kr : Memref sig .tc .vmem S768x256 .f32) (slab : Memref sig .tc .vmem S2x3x71x128 .f32)
  (rs : Memref sig .tc .vmem S2x3x8x128 .f32) (dk : Memref sig .tc .vmem S768x256 .bf16)
  {k : Fin 3 → Vec Ideal S1x256x256 .bf16} {cos sin : Fin 2 → Vec Ideal S1x48x128 .f32} {alpha : Vec Ideal S8x128 .f32}
  {code : Fin 2 → Fin 8 → Fin 3 → Vec Ideal S1x32x128 .fp8e5m2} {row : Fin 2 → Fin 8 → Vec Ideal S1x1x128 .f32}
  {tile : Fin 2 → Vec Ideal S1x8x128 .f32}
  {X : Fin 256 → Fin 768 → EReal} {C S : Fin 256 → Fin 48 → EReal} {A : Fin 8 → EReal}
  {D : Fin 256 → Fin 768 → EReal} {E : Fin 256 → Fin 8 → EReal}
  (H : Point k cos sin alpha code row tile X C S A D E)

theorem tok_split (p : Fin 256) : ∃ t l, p = tok t l :=
  ⟨⟨p.val / 128, by omega⟩, ⟨p.val % 128, by omega⟩, Fin.ext (by show p.val = 128 * (p.val / 128) + p.val % 128; omega)⟩

/-! ### The codes -/

theorem code_emb (t : Fin 2) (h : Fin 8) (g : Fin 3) (i : Fin 32) (l : Fin 128) :
    (codePiece kr slab rs k cos sin alpha code t h g).1.emb (ix3 (0 : Fin 1) i l) = (ix3 0 (hrow h (Spec.at32 g i)) (tok t l) : S1x768x256.Idx) := by
  funext a
  match a with
  | ⟨0, _⟩ => exact Fin.ext (by show 0 + 1 * 0 = 0; omega)
  | ⟨1, _⟩ => exact Fin.ext (by show 96 * h.val + 32 * g.val + 1 * i.val = 96 * h.val + (g.val * 32 + i.val); omega)
  | ⟨2, _⟩ => exact Fin.ext (by show 128 * t.val + 1 * l.val = 128 * t.val + l.val; omega)

theorem code_mem (t t' : Fin 2) (h h' : Fin 8) (g g' : Fin 3) (i : Fin 32) (l : Fin 128)
    (hm : (ix3 0 (hrow h (Spec.at32 g i)) (tok t l) : S1x768x256.Idx) ∈ (codePiece kr slab rs k cos sin alpha code t' h' g').1.set) :
    t = t' ∧ h = h' ∧ g = g' := by
  have a1 := (Rect.mem_set_unit (inb := inbCode h' g' t')).mp hm 1
  have a2 := (Rect.mem_set_unit (inb := inbCode h' g' t')).mp hm 2
  have b1 : 96 * h'.val + 32 * g'.val ≤ 96 * h.val + (g.val * 32 + i.val) ∧ 96 * h.val + (g.val * 32 + i.val) < 96 * h'.val + 32 * g'.val + 32 := a1
  have b2 : 128 * t'.val ≤ 128 * t.val + l.val ∧ 128 * t.val + l.val < 128 * t'.val + 128 := a2
  exact ⟨Fin.ext (by omega), Fin.ext (by omega), Fin.ext (by omega)⟩

theorem code_flat {α : Type} (v : S32x128.Idx → α) (i : Fin 32) (l : Fin 128) :
    shapeCast S1x32x128 v shapeCasts_S32x128_S1x32x128 (ix3 0 i l) = v (ix2 i l) := by
  pointwise

include H in
theorem codes_apply (p : Fin 256) (h : Fin 8) (g : Fin 3) (i : Fin 32) :
    View.canon (Val := Elt Ideal) (codeL kr slab rs k cos sin alpha code 48) (ix3 0 (hrow h (Spec.at32 g i)) p : S1x768x256.Idx)
      = FloatOps.fptosi (F := Ideal) (φ := .f32) 8 (Spec.code (xr X p h) (C p) (S p) (A h) g i) := by
  obtain ⟨t, l, rfl⟩ := tok_split p
  have hm : 24 * t.val + 3 * h.val + g.val < 48 := by omega
  rw [Canon.skip (codeL kr slab rs k cos sin alpha code) (fun n => codePiece kr slab rs k cos sin alpha code (t2 (n / 24)) (h8 (n / 3)) (g3 n))
    (fun _ => rfl) _ (24 * t.val + 3 * h.val + g.val + 1) 48 hm (fun n h1 h2 hin => by
      obtain ⟨e1, e2, e3⟩ := code_mem _ _ _ _ _ _ _ _ _ _ _ hin
      have e1 : t.val = n / 24 % 2 := congrArg Fin.val e1
      have e2 : h.val = n / 3 % 8 := congrArg Fin.val e2
      have e3 : g.val = n % 3 := congrArg Fin.val e3
      omega)]
  unfold codeL
  have e1 : t2 ((24 * t.val + 3 * h.val + g.val) / 24) = t := Fin.ext (by show (24 * t.val + 3 * h.val + g.val) / 24 % 2 = t.val; omega)
  have e2 : h8 ((24 * t.val + 3 * h.val + g.val) / 3) = h := Fin.ext (by show (24 * t.val + 3 * h.val + g.val) / 3 % 8 = h.val; omega)
  have e3 : g3 (24 * t.val + 3 * h.val + g.val) = g := Fin.ext (by show (24 * t.val + 3 * h.val + g.val) % 3 = g.val; omega)
  rw [e1, e2, e3, ← code_emb kr slab rs (k := k) (cos := cos) (sin := sin) (alpha := alpha) (code := code) t h g i l]
  refine (View.canon_cons_emb _ _ _ _).trans ?_
  refine (code_flat _ i l).trans ?_
  refine congrArg (FloatOps.fptosi (F := Ideal) (φ := .f32) 8) ?_
  rw [codeOf_apply, q_apply kr slab rs _ _ H]
  rfl

/-! ### The scales -/

theorem scale_emb (t : Fin 2) (g : Fin 3) (h : Fin 8) (l : Fin 128) :
    (Rect.unit (s := S1x3x8x256) ![0, g.val, 0, 128 * t.val] S1x1x8x128.size (inbScale g t)).emb (ix4 (0 : Fin 1) (0 : Fin 1) h l)
      = (ix4 0 g h (tok t l) : S1x3x8x256.Idx) := by
  funext a
  match a with
  | ⟨0, _⟩ => exact Fin.ext (by show 0 + 1 * 0 = 0; omega)
  | ⟨1, _⟩ => exact Fin.ext (by show g.val + 1 * 0 = g.val; omega)
  | ⟨2, _⟩ => exact Fin.ext (by show 0 + 1 * h.val = h.val; omega)
  | ⟨3, _⟩ => exact Fin.ext (by show 128 * t.val + 1 * l.val = 128 * t.val + l.val; omega)

theorem scale_mem (t t' : Fin 2) (g g' : Fin 3) (h : Fin 8) (l : Fin 128)
    (hm : (ix4 0 g h (tok t l) : S1x3x8x256.Idx) ∈ (Rect.unit (s := S1x3x8x256) ![0, g'.val, 0, 128 * t'.val] S1x1x8x128.size (inbScale g' t')).set) :
    t = t' ∧ g = g' := by
  have a1 := Rect.mem_set_unit.mp hm 1
  have a3 := Rect.mem_set_unit.mp hm 3
  have b1 : g'.val ≤ g.val ∧ g.val < g'.val + 1 := a1
  have b3 : 128 * t'.val ≤ 128 * t.val + l.val ∧ 128 * t.val + l.val < 128 * t'.val + 128 := a3
  exact ⟨Fin.ext (by omega), Fin.ext (by omega)⟩

theorem scale_flat {α : Type} (v : S8x128.Idx → α) (h : Fin 8) (l : Fin 128) :
    shapeCast S1x1x8x128 v shapeCasts_S8x128_S1x1x8x128 (ix4 0 0 h l) = v (ix2 h l) := by
  pointwise

theorem scale_hit (t t' : Fin 2) (g g' : Fin 3) (ht : t' = t) (hg : g' = g) (v : Fin 2 → Fin 3 → Vec Ideal S8x128 .f32) (L : List (View.Piece (Elt Ideal) S1x3x8x256 .f32))
    (h : Fin 8) (l : Fin 128) :
    View.canon (⟨Rect.unit (s := S1x3x8x256) ![0, g'.val, 0, 128 * t'.val] S1x1x8x128.size (inbScale g' t'), shapeCast S1x1x8x128 (v t' g') shapeCasts_S8x128_S1x1x8x128⟩ :: L)
      (ix4 0 g h (tok t l)) = v t g (ix2 h l) := by
  subst ht hg
  rw [← scale_emb]
  exact (View.canon_cons_emb _ _ _ _).trans (scale_flat _ h l)

include H in
theorem scales_apply (p : Fin 256) (h : Fin 8) (g : Fin 3) :
    View.canon (Val := Elt Ideal) (scaleL kr slab rs k cos sin alpha code 6) (ix4 0 g h p : S1x3x8x256.Idx)
      = Spec.sc (xr X p h) (C p) (S p) (A h) g := by
  obtain ⟨t, l, rfl⟩ := tok_split p
  have hm : 3 * t.val + g.val < 6 := by omega
  rw [Canon.skip (scaleL kr slab rs k cos sin alpha code) (fun n => ⟨Rect.unit ![0, (g3 n).val, 0, 128 * (t2 (n / 3)).val] S1x1x8x128.size (inbScale (g3 n) (t2 (n / 3))), _⟩)
    (fun _ => rfl) _ (3 * t.val + g.val + 1) 6 hm (fun n h1 h2 hin => by
      obtain ⟨e1, e2⟩ := scale_mem _ _ _ _ _ _ hin
      have e1 : t.val = n / 3 % 2 := congrArg Fin.val e1
      have e2 : g.val = n % 3 := congrArg Fin.val e2
      omega)]
  unfold scaleL
  have e1 : t2 ((3 * t.val + g.val) / 3) = t := Fin.ext (by show (3 * t.val + g.val) / 3 % 2 = t.val; omega)
  have e3 : g3 (3 * t.val + g.val) = g := Fin.ext (by show (3 * t.val + g.val) % 3 = g.val; omega)
  exact (scale_hit t _ g _ e1 e3 (fun t g => sV kr slab k cos sin alpha (slab0 kr slab rs k cos sin alpha code t) t g) _ h l).trans
    (sV_apply kr slab _ H t g h l)

/-! ### The key's gradient -/

include H in
theorem dkL_apply (p : Fin 256) (h : Fin 8) (j : Fin 96) :
    View.canon (Val := Elt Ideal) (dkL kr slab rs k cos sin alpha code row 16) (ix2 (hrow h j) p : S768x256.Idx)
      = Spec.dk (xr X p h) (C p) (S p) (A h) (xr D p h) (E p h) j := by
  obtain ⟨t, l, rfl⟩ := tok_split p
  have hm : 8 * t.val + h.val < 16 := by omega
  rw [Canon.skip (dkL kr slab rs k cos sin alpha code row) (fun n => ⟨r96 (h8 n) (t2 (n / 8)), _⟩)
    (fun _ => rfl) _ (8 * t.val + h.val + 1) 16 hm (fun n h1 h2 hin => by
      obtain ⟨e1, e2⟩ := mem96 _ _ _ _ _ _ hin
      have e1 : h.val = n % 8 := congrArg Fin.val e1
      have e2 : t.val = n / 8 % 2 := congrArg Fin.val e2
      omega)]
  unfold dkL
  rw [h8_val, t2_val, ← emb96, View.canon_cons_emb, shapeCast_id]
  exact Grad.dkV_apply kr slab rs _ _ H t h j l

theorem turn_apply (v : Vec Ideal S768x256 .bf16) (p : Fin 256) (r : Fin 768) :
    k0_pay674 v (ix3 0 p r) = v (ix2 r p) := by
  unfold k0_pay674
  pointwise

theorem whole_idx (r : Fin 768) (p : Fin 256) :
    (Rect.unit (s := S768x256) ![0, 0] S768x256.size inb_S768x256_S768x256_0_0).toLoadRect.idx (ix2 r p) = (ix2 r p : S768x256.Idx) := by
  funext a
  match a with
  | ⟨0, _⟩ => exact Fin.ext (by show 0 + 1 * r.val = r.val; omega)
  | ⟨1, _⟩ => exact Fin.ext (by show 0 + 1 * p.val = p.val; omega)

theorem out_emb (p : Fin 256) (r : Fin 768) :
    (Rect.unit (s := S1x256x768) ![0, 0, 0] S1x256x768.size inb_S1x256x768_S1x256x768_0_0_0).emb (ix3 (0 : Fin 1) p r) = (ix3 0 p r : S1x256x768.Idx) := by
  funext a
  match a with
  | ⟨0, _⟩ => exact Fin.ext (by show 0 + 1 * 0 = 0; omega)
  | ⟨1, _⟩ => exact Fin.ext (by show 0 + 1 * p.val = p.val; omega)
  | ⟨2, _⟩ => exact Fin.ext (by show 0 + 1 * r.val = r.val; omega)

include H in
theorem dk_apply (p : Fin 256) (h : Fin 8) (j : Fin 96) :
    View.canon (Val := Elt Ideal) (outDk kr slab rs dk k cos sin alpha code row) (ix3 0 p (hrow h j) : S1x256x768.Idx)
      = Spec.dk (xr X p h) (C p) (S p) (A h) (xr D p h) (E p h) j := by
  unfold outDk
  rw [← out_emb]
  refine (View.canon_cons_emb _ _ _ _).trans ?_
  refine (turn_apply _ p (hrow h j)).trans ?_
  rw [View.readCov_eq_canon' dk.view]
  exact (congrArg (View.canon (dkL kr slab rs k cos sin alpha code row 16)) (whole_idx (hrow h j) p)).trans (dkL_apply kr slab rs H p h j)

/-! ### The clip ratio's gradient -/

theorem tile_emb (t : Fin 2) (h : Fin 8) (l : Fin 128) :
    (Rect.unit (s := S1x8x256) ![0, 0, 128 * t.val] S1x8x128.size (inbTile t)).emb (ix3 (0 : Fin 1) h l) = (ix3 0 h (tok t l) : S1x8x256.Idx) := by
  funext a
  match a with
  | ⟨0, _⟩ => exact Fin.ext (by show 0 + 1 * 0 = 0; omega)
  | ⟨1, _⟩ => exact Fin.ext (by show 0 + 1 * h.val = h.val; omega)
  | ⟨2, _⟩ => exact Fin.ext (by show 128 * t.val + 1 * l.val = 128 * t.val + l.val; omega)

theorem tile_mem (t t' : Fin 2) (h : Fin 8) (l : Fin 128)
    (hm : (ix3 0 h (tok t l) : S1x8x256.Idx) ∈ (Rect.unit (s := S1x8x256) ![0, 0, 128 * t'.val] S1x8x128.size (inbTile t')).set) : t = t' := by
  have a2 := Rect.mem_set_unit.mp hm 2
  have b2 : 128 * t'.val ≤ 128 * t.val + l.val ∧ 128 * t.val + l.val < 128 * t'.val + 128 := a2
  exact Fin.ext (by omega)

theorem tile_flat {α : Type} (v : S8x128.Idx → α) (h : Fin 8) (l : Fin 128) :
    shapeCast S1x8x128 v shapeCasts_S8x128_S1x8x128 (ix3 0 h l) = v (ix2 h l) := by
  pointwise

theorem tile_hit (t : Fin 2) (v : Vec Ideal S8x128 .f32) (L : List (View.Piece (Elt Ideal) S1x8x256 .f32)) (h : Fin 8) (l : Fin 128) :
    View.canon (⟨Rect.unit (s := S1x8x256) ![0, 0, 128 * t.val] S1x8x128.size (inbTile t), shapeCast S1x8x128 v shapeCasts_S8x128_S1x8x128⟩ :: L)
      (ix3 0 h (tok t l)) = v (ix2 h l) := by
  rw [← tile_emb]
  exact (View.canon_cons_emb _ _ _ _).trans (tile_flat _ h l)

theorem tile_miss (t t' : Fin 2) (e : t ≠ t') (v : Vec Ideal S8x128 .f32) (L : List (View.Piece (Elt Ideal) S1x8x256 .f32)) (h : Fin 8) (l : Fin 128) :
    View.canon (⟨Rect.unit (s := S1x8x256) ![0, 0, 128 * t'.val] S1x8x128.size (inbTile t'), shapeCast S1x8x128 v shapeCasts_S8x128_S1x8x128⟩ :: L)
      (ix3 0 h (tok t l)) = View.canon L (ix3 0 h (tok t l)) :=
  View.canon_cons_of_not_mem _ _ fun hm => e (tile_mem _ _ _ _ hm)

include H in
theorem tokV_apply (t : Fin 2) (h : Fin 8) (l : Fin 128) :
    tokV kr slab rs k cos sin alpha code tile t (ix2 h l)
      = Spec.tok (xr X (tok t l) h) (C (tok t l)) (S (tok t l)) (A h) (xr D (tok t l) h) (E (tok t l) h) :=
  Grad.tok_apply kr slab rs _ _ H t h l

include H in
theorem tok_apply (p : Fin 256) (h : Fin 8) :
    View.canon (Val := Elt Ideal) (outTok kr slab rs k cos sin alpha code tile) (ix3 0 h p : S1x8x256.Idx)
      = Spec.tok (xr X p h) (C p) (S p) (A h) (xr D p h) (E p h) := by
  obtain ⟨t, l, rfl⟩ := tok_split p
  unfold outTok
  by_cases e : t = 1
  · subst e
    exact (tile_hit 1 _ _ h l).trans (tokV_apply kr slab rs H 1 h l)
  · have e0 : t = 0 := Fin.ext (by have : t.val ≠ 1 := fun e' => e (Fin.ext e'); show t.val = 0; omega)
    subst e0
    exact (tile_miss 0 1 e _ _ h l).trans ((tile_hit 0 _ _ h l).trans (tokV_apply kr slab rs H 0 h l))

include H in
theorem acc_apply (acc : Vec Ideal S8x128 .f32) (h : Fin 8) (l : Fin 128) :
    accNew kr slab rs k cos sin alpha acc code tile (ix2 h l)
      = acc (ix2 h l) + Spec.tok (xr X (tok 0 l) h) (C (tok 0 l)) (S (tok 0 l)) (A h) (xr D (tok 0 l) h) (E (tok 0 l) h)
        + Spec.tok (xr X (tok 1 l) h) (C (tok 1 l)) (S (tok 1 l)) (A h) (xr D (tok 1 l) h) (E (tok 1 l) h) := by
  unfold accNew
  rw [shapeCast_id, ValueIdx.addf_apply, ValueIdx.addf_apply, tokV_apply kr slab rs H, tokV_apply kr slab rs H]

end Cert.Block
-- ==== Proof.Points.lean ====
/- Every grid point reads its part of the arguments. -/
module

public import proofs.«01_k».proof.Proof.Entry
public import proofs.«01_k».proof.Proof.Match
public import proofs.«01_k».proof.Proof.Block
public import Idealize.ShloMosaic.Lib.WholeRead

@[expose] public section

set_option maxRecDepth 16384

noncomputable section

namespace Cert.Points

open Idealize.ShloMosaic Idealize.ShloMosaic.TcCoe
open Cert.KernelIdeal Cert.KernelIdeal.Gen Cert.Rot Cert.Quant Cert.Match Cert.Entry

variable (m : (b : Loc nD τ sig) → Buf (Elt Ideal) b) (c : Dev nD)

/-- The arguments, by coordinates. -/
def K (b : Fin 6) (p : Fin 256) (h : Fin 64) (j : Fin 96) : EReal :=
  (m ((c : Thread nD τ).loc main_arg0) : S6x256x6144.Idx → EReal) (ix3 b p ⟨h.val * 96 + j.val, by omega⟩)
def C (b : Fin 6) (p : Fin 256) (i : Fin 48) : EReal := (m ((c : Thread nD τ).loc main_arg1) : S6x256x48.Idx → EReal) (ix3 b p i)
def S (b : Fin 6) (p : Fin 256) (i : Fin 48) : EReal := (m ((c : Thread nD τ).loc main_arg2) : S6x256x48.Idx → EReal) (ix3 b p i)
def A (h : Fin 64) : EReal := (m ((c : Thread nD τ).loc main_arg3) : S64.Idx → EReal) (ix1 h)
def D (b : Fin 6) (p : Fin 256) (h : Fin 64) (j : Fin 96) : EReal :=
  (m ((c : Thread nD τ).loc main_arg4) : S6x256x64x96.Idx → EReal) (ix4 b p h j)
def E (b : Fin 6) (p : Fin 256) (h : Fin 64) : EReal := (m ((c : Thread nD τ).loc main_arg5) : S6x256x64.Idx → EReal) (ix3 b p h)

/-- What the claim asks of the arguments. -/
structure Good : Prop where
  ne : ∀ h, A m c h ≠ 0
  nonneg : ∀ b p h, 0 ≤ E m c b p h
  finite : ∀ b p h, E m c b p h < ⊤

/-- Row `r` of a block, as a head and an entry. -/
def hd (r : Fin 768) : Fin 8 := ⟨r.val / 96, by omega⟩
def en (r : Fin 768) : Fin 96 := ⟨r.val % 96, by omega⟩

theorem hd_hrow (h : Fin 8) (j : Fin 96) : hd (hrow h j) = h := Fin.ext (by show (96 * h.val + j.val) / 96 = h.val; omega)
theorem en_hrow (h : Fin 8) (j : Fin 96) : en (hrow h j) = j := Fin.ext (by show (96 * h.val + j.val) % 96 = j.val; omega)

theorem blk_k' (t : Fin cfg0.N) (p : Fin 256) (r : Fin 768) :
    iblk m c 0 t (ix3 0 p r) = K m c (bOf t) p (headAt t (hd r)) (en r) := by
  rw [blk_k]
  unfold K
  refine congrArg (fun r => (m ((c : Thread nD τ).loc main_arg0) : S6x256x6144.Idx → EReal) (ix3 (bOf t) p r)) (Fin.ext ?_)
  show 768 * (hOf t).val + r.val = (8 * (hOf t).val + r.val / 96) * 96 + r.val % 96
  omega

theorem blk_codes' (t : Fin cfg0.N) (r : Fin 768) (p : Fin 256) :
    iblk m c 4 t (ix3 0 r p) = D m c (bOf t) p (headAt t (hd r)) (en r) := by
  have e : r = (⟨96 * (hd r).val + (en r).val, by have := (hd r).isLt; have := (en r).isLt; omega⟩ : Fin 768) :=
    Fin.ext (by show r.val = 96 * (r.val / 96) + r.val % 96; omega)
  refine Eq.trans (congrArg (fun r => iblk m c 4 t (ix3 0 r p)) e) ?_
  exact blk_codes m c t (hd r) (en r) p

variable (G : Good m c) (t : Fin cfg0.N)

abbrev Xt (p : Fin 256) (r : Fin 768) : EReal := K m c (bOf t) p (headAt t (hd r)) (en r)
abbrev Ct (p : Fin 256) (i : Fin 48) : EReal := C m c (bOf t) p i
abbrev St (p : Fin 256) (i : Fin 48) : EReal := S m c (bOf t) p i
abbrev At (h : Fin 8) : EReal := A m c (headAt t h)
abbrev Dt (p : Fin 256) (r : Fin 768) : EReal := D m c (bOf t) p (headAt t (hd r)) (en r)
abbrev Et (p : Fin 256) (h : Fin 8) : EReal := E m c (bOf t) p (headAt t h)

theorem unit3_idx {a b d a' b' d' : ℕ} (o : Fin 3 → ℕ) (inb) (i : Fin a') (j : Fin b') (l : Fin d') (i' : Fin a) (j' : Fin b) (l' : Fin d)
    (h0 : o 0 + i.val = i'.val) (h1 : o 1 + j.val = j'.val) (h2 : o 2 + l.val = l'.val) :
    (Rect.unit (s := ⟨3, ![a, b, d]⟩) o ![a', b', d'] inb).toLoadRect.idx (ix3 i j l) = ix3 i' j' l' := by
  funext x
  match x with
  | ⟨0, _⟩ => exact Fin.ext (by show o 0 + 1 * i.val = i'.val; omega)
  | ⟨1, _⟩ => exact Fin.ext (by show o 1 + 1 * j.val = j'.val; omega)
  | ⟨2, _⟩ => exact Fin.ext (by show o 2 + 1 * l.val = l'.val; omega)

include G in
theorem point (al : Vec Ideal S8x128 .f32) (hal : ∀ h l, al (ix2 h l) = At m c t h) :
    Point (kOf (ms0_0 t) (hs0_0 t) (iblk m c 0 t)) (rotOf (ms0_1 t) (hs0_1 t) (iblk m c 1 t)) (rotOf (ms0_2 t) (hs0_2 t) (iblk m c 2 t)) al
      (codesOf (ms0_4 t) (hs0_4 t) (iblk m c 4 t)) (rowOf (ms0_5 t) (hs0_5 t) (iblk m c 5 t)) (tileOf (ms0_5 t) (hs0_5 t) (iblk m c 5 t))
      (Xt m c t) (Ct m c t) (St m c t) (At m c t) (Dt m c t) (Et m c t) where
  k j p r := by
    unfold kOf
    rw [Memref.IsWhole.readAt_unread]
    exact (congrArg (iblk m c 0 t) (unit3_idx _ _ 0 p r 0 p ⟨256 * j.val + r.val, by omega⟩ rfl (Nat.zero_add _) rfl)).trans (blk_k' m c t p _)
  cos s i l := by
    unfold rotOf
    rw [Memref.IsWhole.readAt_unread]
    exact (congrArg (iblk m c 1 t) (unit3_idx _ _ 0 i l 0 i (tok s l) rfl (Nat.zero_add _) rfl)).trans (blk_cos m c t i _)
  sin s i l := by
    unfold rotOf
    rw [Memref.IsWhole.readAt_unread]
    exact (congrArg (iblk m c 2 t) (unit3_idx _ _ 0 i l 0 i (tok s l) rfl (Nat.zero_add _) rfl)).trans (blk_sin m c t i _)
  alpha := hal
  alpha_ne h := G.ne _
  code s h g i l := by
    unfold codesOf
    rw [Memref.IsWhole.readAt_unread]
    refine (congrArg (iblk m c 4 t) (unit3_idx _ _ 0 i l 0 (hrow h (Spec.at32 g i)) (tok s l) rfl ?_ rfl)).trans (blk_codes' m c t _ _)
    show 96 * h.val + 32 * g.val + i.val = 96 * h.val + (g.val * 32 + i.val)
    omega
  row s h l := by
    unfold rowOf
    rw [Memref.IsWhole.readAt_unread]
    exact (congrArg (iblk m c 5 t) (unit3_idx _ _ 0 0 l 0 h (tok s l) rfl rfl rfl)).trans (blk_scales m c t h _)
  tile s h l := by
    unfold tileOf
    rw [Memref.IsWhole.readAt_unread]
    exact (congrArg (iblk m c 5 t) (unit3_idx _ _ 0 h l 0 h (tok s l) rfl (Nat.zero_add _) rfl)).trans (blk_scales m c t h _)
  nonneg l h := G.nonneg _ _ _
  finite l h := G.finite _ _ _

/-! ### The carried clip ratios -/

theorem same_word : ∀ h x : Fin 64, IntOp.cmpi .eq (BitVec.ofNat 32 h.val) (BitVec.ofNat 32 x.val) = if h = x then 1#1 else 0#1 := by
  decide +kernel

theorem diag_apply (v : Vec Ideal S1x64 .f32) (h : Fin 64) (l : Fin 128) : k0_pay1 v (ix2 h l) = v (ix2 0 h) := by
  unfold k0_pay1
  pointwise
  simp only [same_word, Consts.select_if]
  rw [Finset.sum_ite_eq]
  exact if_pos (Finset.mem_univ _)

theorem zero_apply (j : S64x128.Idx) : (k0_pay2 : FVec Ideal S64x128 .f32) j = 0 := by
  unfold k0_pay2
  rw [shapeCast_id]
  exact Consts.zero_f32

/-- The last point's sum over the lanes. -/
theorem lanes_apply (v : Vec Ideal S64x128 .f32) (h : Fin 64) :
    k0_pay675 (iota .tc S64x64 32 [0] iota_S64x64_d0_w32) (iota .tc S64x64 32 [1] iota_S64x64_d1_w32) v (ix2 0 h) = ∑ l : Fin 128, v (ix2 h l) := by
  unfold k0_pay675
  pointwise
  simp only [same_word, Consts.select_if]
  rw [Finset.sum_ite_eq']
  exact if_pos (Finset.mem_univ _)

end Cert.Points
-- ==== Proof.Outs.lean ====
/- What every grid point leaves in its output blocks, whichever of the three forms of the body it runs. -/
module

public import proofs.«01_k».proof.Proof.Points
public import Idealize.ShloMosaic.Lib.VecWindow
public import Idealize.ShloMosaic.Lib.WritesUnit

@[expose] public section

set_option maxRecDepth 16384

noncomputable section

namespace Cert.Outs

open Idealize.ShloMosaic Idealize.ShloMosaic.TcCoe
open Cert.KernelIdeal Cert.KernelIdeal.Gen Cert.Model Cert.Rot Cert.Quant Cert.Match Cert.Entry Cert.Points

variable (m : (b : Loc nD τ sig) → Buf (Elt Ideal) b) (c : Dev nD)

theorem rows_idx (t : Fin cfg0.N) (h : Fin 8) (l : Fin 128) :
    (Rect.unit (s := S64x128) (k0_off1 (grid0.coords t)) S8x128.size (k0_off1_inb (grid0.coords t))).emb (ix2 h l)
      = (ix2 (headAt t h) l : S64x128.Idx) := by
  funext a
  match a with
  | ⟨0, _⟩ => exact Fin.ext (by show k0_off1 (grid0.coords t) 0 + 1 * h.val = 8 * (hOf t).val + h.val; rw [k0_off1_eq]; show 8 * (hOf t).val + 1 * h.val = _; omega)
  | ⟨1, _⟩ => exact Fin.ext (by show k0_off1 (grid0.coords t) 1 + 1 * l.val = l.val; rw [k0_off1_eq]; show 0 + 1 * l.val = _; omega)

theorem rows_unread (t : Fin cfg0.N) (a : Memref sig .tc .vmem S64x128 .f32) (ha : a.IsWhole) (xs : Vec Ideal S64x128 .f32)
    (h : Fin 8) (l : Fin 128) : rowsOf (F := Ideal) (grid0.coords t) a (ha.unread xs) (ix2 h l) = xs (ix2 (headAt t h) l) := by
  unfold rowsOf
  rw [Memref.IsWhole.readAt_unread]
  exact congrArg xs (rows_idx t h l)

theorem rows_writes (t : Fin cfg0.N) (a : Memref sig .tc .vmem S64x128 .f32) (w : Vec Ideal S64x128 .f32)
    (h : Fin 8) (l : Fin 128) :
    rowsOf (F := Ideal) (grid0.coords t) a (a.view.writes (Elt Ideal) a.view.junk [⟨Rect.unit ![0, 0] S64x128.size inb_S64x128_S64x128_0_0, w⟩]) (ix2 h l)
      = w (ix2 (headAt t h) l) := by
  unfold rowsOf
  rw [View.readAt_apply, View.read_writes_full]
  exact congrArg w (rows_idx t h l)

/-- `alpha` spread over the lanes, as the first point stores it. -/
theorem alpha_stored (t : Fin cfg0.N) (h : Fin 64) (l : Fin 128) :
    (k0_pay1 (View.readAt (Elt Ideal) (ms0_3 t).view (Rect.unit (s := S1x64) ![0, 0] S1x64.size inb_S1x64_S1x64_0_0).toLoadRect ((hs0_3 t).unread (iblk m c 3 t))) : Vec Ideal S64x128 .f32) (ix2 h l)
      = A m c h := by
  rw [diag_apply, View.readAt_full, Memref.IsWhole.read_unread]
  exact blk_alpha m c t h

/-- `alpha` stays in the buffer at every point. -/
theorem alpha_carried (n : ℕ) (hn : n < cfg0.N) (h : Fin 64) (l : Fin 128) :
    (outsAt0 m c n hn).2.2.2.2.2.1 (ix2 h l) = A m c h := by
  induction n using Nat.strong_induction_on with
  | _ n ih =>
    by_cases h0 : n % 48 = 0
    · have h1 : ¬ n % 48 = 47 := by omega
      rw [show outsAt0 m c n hn = _ from outsAt0_A m c ⟨n, hn⟩ h0 h1]
      dsimp only
      unfold sout0_A_4
      rw [runA_alpha]
      unfold alphaL
      rw [View.read_writes_full]
      exact alpha_stored m c ⟨n, hn⟩ h l
    · by_cases h1 : n % 48 = 47
      · rw [show outsAt0 m c n hn = _ from outsAt0_C m c ⟨n, hn⟩ h0 h1]
        dsimp only
        unfold sout0_C_4
        exact ih (n - 1) (by omega) _
      · rw [show outsAt0 m c n hn = _ from outsAt0_B m c ⟨n, hn⟩ h0 h1]
        dsimp only
        unfold sout0_B_4
        exact ih (n - 1) (by omega) _

/-- The output blocks of point `t`, from rows that hold `alpha`. -/
structure Form (t : Fin cfg0.N) (al : Vec Ideal S8x128 .f32) : Prop where
  rows : ∀ h l, al (ix2 h l) = At m c t h
  dk : (outsAt0 m c t.val t.isLt).1 = View.canon (Val := Elt Ideal) (outDk scM0_0 scM0_2 scM0_3 scM0_1 (kOf (ms0_0 t) (hs0_0 t) (iblk m c 0 t)) (rotOf (ms0_1 t) (hs0_1 t) (iblk m c 1 t)) (rotOf (ms0_2 t) (hs0_2 t) (iblk m c 2 t)) al
      (codesOf (ms0_4 t) (hs0_4 t) (iblk m c 4 t)) (rowOf (ms0_5 t) (hs0_5 t) (iblk m c 5 t)))
  tok : (outsAt0 m c t.val t.isLt).2.2.1 = View.canon (Val := Elt Ideal) (outTok scM0_0 scM0_2 scM0_3 (kOf (ms0_0 t) (hs0_0 t) (iblk m c 0 t)) (rotOf (ms0_1 t) (hs0_1 t) (iblk m c 1 t)) (rotOf (ms0_2 t) (hs0_2 t) (iblk m c 2 t)) al
      (codesOf (ms0_4 t) (hs0_4 t) (iblk m c 4 t)) (tileOf (ms0_5 t) (hs0_5 t) (iblk m c 5 t)))
  codes : (outsAt0 m c t.val t.isLt).2.2.2.1 = View.canon (Val := Elt Ideal) (codeL scM0_0 scM0_2 scM0_3 (kOf (ms0_0 t) (hs0_0 t) (iblk m c 0 t)) (rotOf (ms0_1 t) (hs0_1 t) (iblk m c 1 t)) (rotOf (ms0_2 t) (hs0_2 t) (iblk m c 2 t)) al
      (codesOf (ms0_4 t) (hs0_4 t) (iblk m c 4 t)) 48)
  scales : (outsAt0 m c t.val t.isLt).2.2.2.2.1 = View.canon (Val := Elt Ideal) (scaleL scM0_0 scM0_2 scM0_3 (kOf (ms0_0 t) (hs0_0 t) (iblk m c 0 t)) (rotOf (ms0_1 t) (hs0_1 t) (iblk m c 1 t)) (rotOf (ms0_2 t) (hs0_2 t) (iblk m c 2 t)) al
      (codesOf (ms0_4 t) (hs0_4 t) (iblk m c 4 t)) 6)

theorem al_first (t : Fin cfg0.N) (h : Fin 8) (l : Fin 128) :
    rowsOf (F := Ideal) (grid0.coords t) scM0_4 (scM0_4.view.writes (Elt Ideal) scM0_4.view.junk (alphaL (ms0_3 t) (hs0_3 t) (iblk m c 3 t))) (ix2 h l) = At m c t h := by
  unfold alphaL
  rw [rows_writes]
  exact alpha_stored m c t _ l

theorem kept_whole : scM0_4.IsWhole := Memref.isWhole_whole _

/-- The rows of the carried `alpha` after the point before `t`. -/
abbrev laterRows (t : Fin cfg0.N) : Vec Ideal S8x128 .f32 :=
  rowsOf (F := Ideal) (grid0.coords t) scM0_4 (kept_whole.unread (outsAt0 m c (t.val - 1) (Nat.lt_of_le_of_lt (Nat.sub_le _ _) t.isLt)).2.2.2.2.2.1)

theorem al_later (t : Fin cfg0.N) (h : Fin 8) (l : Fin 128) : laterRows m c t (ix2 h l) = At m c t h := by
  unfold laterRows
  rw [rows_unread]
  exact alpha_carried m c _ _ _ l

theorem form (t : Fin cfg0.N) : ∃ al, Form m c t al := by
  by_cases h0 : t.val % 48 = 0
  · have h1 : ¬ t.val % 48 = 47 := by omega
    refine ⟨_, al_first m c t, ?_, ?_, ?_, ?_⟩
    · rw [outsAt0_A m c t h0 h1]
      dsimp only
      unfold out0_A_6
      rw [View.read_writes_junk_eq_canon, runA_dk]
    · rw [outsAt0_A m c t h0 h1]
      dsimp only
      unfold out0_A_8
      rw [View.read_writes_junk_eq_canon, runA_tok]
    · rw [outsAt0_A m c t h0 h1]
      dsimp only
      unfold out0_A_9
      rw [View.read_writes_junk_eq_canon, runA_codes]
    · rw [outsAt0_A m c t h0 h1]
      dsimp only
      unfold out0_A_10
      rw [View.read_writes_junk_eq_canon, runA_scales]
  · by_cases h1 : t.val % 48 = 47
    · refine ⟨laterRows m c t, al_later m c t, ?_, ?_, ?_, ?_⟩
      · rw [outsAt0_C m c t h0 h1]
        dsimp only
        unfold out0_C_6
        rw [View.read_writes_junk_eq_canon, runC_dk]
      · rw [outsAt0_C m c t h0 h1]
        dsimp only
        unfold out0_C_8
        rw [View.read_writes_junk_eq_canon, runC_tok]
      · rw [outsAt0_C m c t h0 h1]
        dsimp only
        unfold out0_C_9
        rw [View.read_writes_junk_eq_canon, runC_codes]
      · rw [outsAt0_C m c t h0 h1]
        dsimp only
        unfold out0_C_10
        rw [View.read_writes_junk_eq_canon, runC_scales]
    · refine ⟨laterRows m c t, al_later m c t, ?_, ?_, ?_, ?_⟩
      · rw [outsAt0_B m c t h0 h1]
        dsimp only
        unfold out0_B_6
        rw [View.read_writes_junk_eq_canon, runB_dk]
      · rw [outsAt0_B m c t h0 h1]
        dsimp only
        unfold out0_B_8
        rw [View.read_writes_junk_eq_canon, runB_tok]
      · rw [outsAt0_B m c t h0 h1]
        dsimp only
        unfold out0_B_9
        rw [View.read_writes_junk_eq_canon, runB_codes]
      · rw [outsAt0_B m c t h0 h1]
        dsimp only
        unfold out0_B_10
        rw [View.read_writes_junk_eq_canon, runB_scales]

end Cert.Outs
-- ==== Proof.Arrays.lean ====
/- The arrays that the grid leaves: the gradient, the per-token sums, the codes and the scales. -/
module

public import proofs.«01_k».proof.Proof.Outs
public import Idealize.ShloMosaic.Lib.Pipeline.ValueKit

@[expose] public section

set_option maxRecDepth 16384

noncomputable section

namespace Cert.Arrays

open Idealize.ShloMosaic Idealize.ShloMosaic.TcCoe
open Cert.KernelIdeal Cert.KernelIdeal.Gen Cert.Rot Cert.Quant Cert.Match Cert.Entry Cert.Points Cert.Outs

variable (m : (b : Loc nD τ sig) → Buf (Elt Ideal) b) (c : Dev nD)

/-! ### The results at their coordinates -/

def dkE (b : Fin 6) (p : Fin 256) (h : Fin 64) (j : Fin 96) : EReal :=
  Spec.dk (K m c b p h) (C m c b p) (S m c b p) (A m c h) (D m c b p h) (E m c b p h) j
def tokE (b : Fin 6) (p : Fin 256) (h : Fin 64) : EReal :=
  Spec.tok (K m c b p h) (C m c b p) (S m c b p) (A m c h) (D m c b p h) (E m c b p h)
def codeE (b : Fin 6) (p : Fin 256) (h : Fin 64) (g : Fin 3) (i : Fin 32) : BitVec 8 :=
  FloatOps.fptosi (F := Ideal) (φ := .f32) 8 (Spec.code (K m c b p h) (C m c b p) (S m c b p) (A m c h) g i)
def scaleE (b : Fin 6) (p : Fin 256) (h : Fin 64) (g : Fin 3) : EReal :=
  Spec.sc (K m c b p h) (C m c b p) (S m c b p) (A m c h) g

theorem xrK (t : Fin cfg0.N) (p : Fin 256) (h : Fin 8) : xr (Xt m c t) p h = K m c (bOf t) p (headAt t h) :=
  funext fun j => by show K m c (bOf t) p (headAt t (hd (hrow h j))) (en (hrow h j)) = _; rw [hd_hrow, en_hrow]
theorem xrD (t : Fin cfg0.N) (p : Fin 256) (h : Fin 8) : xr (Dt m c t) p h = D m c (bOf t) p (headAt t h) :=
  funext fun j => by show D m c (bOf t) p (headAt t (hd (hrow h j))) (en (hrow h j)) = _; rw [hd_hrow, en_hrow]

section
variable (G : Good m c)
include G

theorem dk_out (t : Fin cfg0.N) (p : Fin 256) (h : Fin 8) (j : Fin 96) :
    (outsAt0 m c t.val t.isLt).1 (ix3 0 p (hrow h j) : S1x256x768.Idx) = dkE m c (bOf t) p (headAt t h) j := by
  obtain ⟨al, f⟩ := form m c t
  rw [f.dk]
  refine (Block.dk_apply _ _ _ _ (point m c G t al f.rows) p h j).trans ?_
  rw [xrK, xrD]
  rfl

theorem tok_out (t : Fin cfg0.N) (p : Fin 256) (h : Fin 8) :
    (outsAt0 m c t.val t.isLt).2.2.1 (ix3 0 h p : S1x8x256.Idx) = tokE m c (bOf t) p (headAt t h) := by
  obtain ⟨al, f⟩ := form m c t
  rw [f.tok]
  refine (Block.tok_apply _ _ _ (point m c G t al f.rows) p h).trans ?_
  rw [xrK, xrD]
  rfl

theorem code_out (t : Fin cfg0.N) (p : Fin 256) (h : Fin 8) (g : Fin 3) (i : Fin 32) :
    (outsAt0 m c t.val t.isLt).2.2.2.1 (ix3 0 (hrow h (Spec.at32 g i)) p : S1x768x256.Idx) = codeE m c (bOf t) p (headAt t h) g i := by
  obtain ⟨al, f⟩ := form m c t
  rw [f.codes]
  refine (Block.codes_apply _ _ _ (point m c G t al f.rows) p h g i).trans ?_
  rw [xrK]
  rfl

theorem scale_out (t : Fin cfg0.N) (p : Fin 256) (h : Fin 8) (g : Fin 3) :
    (outsAt0 m c t.val t.isLt).2.2.2.2.1 (ix4 0 g h p : S1x3x8x256.Idx) = scaleE m c (bOf t) p (headAt t h) g := by
  obtain ⟨al, f⟩ := form m c t
  rw [f.scales]
  refine (Block.scales_apply _ _ _ (point m c G t al f.rows) p h g).trans ?_
  rw [xrK]
  rfl

end

/-! ### The arrays -/

def row (h : Fin 64) (j : Fin 96) : Fin 6144 := ⟨h.val * 96 + j.val, by omega⟩
def rowHead (r : Fin 6144) : Fin 64 := ⟨r.val / 96, by omega⟩
def rowEntry (r : Fin 6144) : Fin 96 := ⟨r.val % 96, by omega⟩
theorem head_row (h : Fin 64) (j : Fin 96) : rowHead (row h j) = h := Fin.ext (by show (h.val * 96 + j.val) / 96 = h.val; omega)
theorem entry_row (h : Fin 64) (j : Fin 96) : rowEntry (row h j) = j := Fin.ext (by show (h.val * 96 + j.val) % 96 = j.val; omega)
def grp (j : Fin 96) : Fin 3 := ⟨j.val / 32, by omega⟩
def pos (j : Fin 96) : Fin 32 := ⟨j.val % 32, by omega⟩
theorem at32_grp (j : Fin 96) : Spec.at32 (grp j) (pos j) = j := Fin.ext (by show j.val / 32 * 32 + j.val % 32 = j.val; omega)

def dkArr : S6x256x6144.Idx → EReal := fun i => dkE m c (i 0) (i 1) (rowHead (i 2)) (rowEntry (i 2))
def tokArr : S6x64x256.Idx → EReal := fun i => tokE m c (i 0) (i 2) (i 1)
def codeArr : S6x6144x256.Idx → BitVec 8 := fun i => codeE m c (i 0) (i 2) (rowHead (i 1)) (grp (rowEntry (i 1))) (pos (rowEntry (i 1)))
def scaleArr : S6x3x64x256.Idx → EReal := fun i => scaleE m c (i 0) (i 3) (i 2) (i 1)

theorem idx_dk : ∀ t : Fin cfg0.N, win0_6.index t = ![t.val / 8, 0, t.val % 8] := (by decide +kernel : ∀ t : Fin grid0.N, _)
theorem idx_tok : ∀ t : Fin cfg0.N, win0_8.index t = ![t.val / 8, t.val % 8, 0] := (by decide +kernel : ∀ t : Fin grid0.N, _)
theorem idx_code : ∀ t : Fin cfg0.N, win0_9.index t = ![t.val / 8, t.val % 8, 0] := (by decide +kernel : ∀ t : Fin grid0.N, _)
theorem idx_scale : ∀ t : Fin cfg0.N, win0_10.index t = ![t.val / 8, 0, t.val % 8, 0] := (by decide +kernel : ∀ t : Fin grid0.N, _)

theorem ix3_split {a b d : ℕ} (y : (⟨3, ![a, b, d]⟩ : Shape).Idx) : ∃ (i : Fin a) (j : Fin b) (k : Fin d), y = ix3 i j k :=
  ⟨y 0, y 1, y 2, funext fun x => match x with | ⟨0, _⟩ => rfl | ⟨1, _⟩ => rfl | ⟨2, _⟩ => rfl⟩
theorem ix4_split {a b d e : ℕ} (y : (⟨4, ![a, b, d, e]⟩ : Shape).Idx) : ∃ (i : Fin a) (j : Fin b) (k : Fin d) (l : Fin e), y = ix4 i j k l :=
  ⟨y 0, y 1, y 2, y 3, funext fun x => match x with | ⟨0, _⟩ => rfl | ⟨1, _⟩ => rfl | ⟨2, _⟩ => rfl | ⟨3, _⟩ => rfl⟩

theorem row_split (r : Fin 768) : ∃ h j, r = hrow h j := ⟨hd r, en r, Fin.ext (by show r.val = 96 * (r.val / 96) + r.val % 96; omega)⟩

section
variable (G : Good m c)
include G

theorem arr_dk : (dats m 0 c).arrAt 6 cfg0.N = dkArr m c := by
  refine (dats m 0 c).arrAt_eq_of_covers 6 _ (by decide +kernel) fun t hf y => ?_
  blk_simp
  rw [after0_6]
  obtain ⟨z, p, r, rfl⟩ : ∃ (z : Fin 1) (p : Fin 256) (r : Fin 768), y = ix3 z p r := ix3_split y
  obtain rfl : z = 0 := Subsingleton.elim _ _
  obtain ⟨h, j, rfl⟩ := row_split r
  have e := idx_dk t
  have he : (win0_6.blk t).view.emb (ix3 0 p (hrow h j)) = (ix3 (bOf t) p (row (headAt t h) j) : S6x256x6144.Idx) := by
    funext a
    match a with
    | ⟨0, _⟩ => exact Fin.ext (by show win0_6.index t 0 * 1 + 1 * 0 = (bOf t).val; rw [e, bOf_val]; show t.val / 8 * 1 + 1 * 0 = _; omega)
    | ⟨1, _⟩ => exact Fin.ext (by show win0_6.index t 1 * 256 + 1 * p.val = p.val; rw [e]; show 0 * 256 + 1 * p.val = _; omega)
    | ⟨2, _⟩ => exact Fin.ext (by show win0_6.index t 2 * 768 + 1 * (96 * h.val + j.val) = (8 * (hOf t).val + h.val) * 96 + j.val; rw [e, hOf_val]; show t.val % 8 * 768 + 1 * (96 * h.val + j.val) = _; omega)
  refine (dk_out m c G t p h j).trans (Eq.trans ?_ (congrArg (dkArr m c) he).symm)
  show _ = dkE m c (bOf t) p (rowHead (row (headAt t h) j)) (rowEntry (row (headAt t h) j))
  rw [head_row, entry_row]

theorem arr_tok : (dats m 0 c).arrAt 8 cfg0.N = tokArr m c := by
  refine (dats m 0 c).arrAt_eq_of_covers 8 _ (by decide +kernel) fun t hf y => ?_
  blk_simp
  rw [after0_8]
  obtain ⟨z, h, p, rfl⟩ : ∃ (z : Fin 1) (h : Fin 8) (p : Fin 256), y = ix3 z h p := ix3_split y
  obtain rfl : z = 0 := Subsingleton.elim _ _
  have e := idx_tok t
  have he : (win0_8.blk t).view.emb (ix3 0 h p) = (ix3 (bOf t) (headAt t h) p : S6x64x256.Idx) := by
    funext a
    match a with
    | ⟨0, _⟩ => exact Fin.ext (by show win0_8.index t 0 * 1 + 1 * 0 = (bOf t).val; rw [e, bOf_val]; show t.val / 8 * 1 + 1 * 0 = _; omega)
    | ⟨1, _⟩ => exact Fin.ext (by show win0_8.index t 1 * 8 + 1 * h.val = 8 * (hOf t).val + h.val; rw [e, hOf_val]; show t.val % 8 * 8 + 1 * h.val = _; omega)
    | ⟨2, _⟩ => exact Fin.ext (by show win0_8.index t 2 * 256 + 1 * p.val = p.val; rw [e]; show 0 * 256 + 1 * p.val = _; omega)
  exact (tok_out m c G t p h).trans (congrArg (tokArr m c) he).symm

theorem arr_code : (dats m 0 c).arrAt 9 cfg0.N = codeArr m c := by
  refine (dats m 0 c).arrAt_eq_of_covers 9 _ (by decide +kernel) fun t hf y => ?_
  blk_simp
  rw [after0_9]
  obtain ⟨z, r, p, rfl⟩ : ∃ (z : Fin 1) (r : Fin 768) (p : Fin 256), y = ix3 z r p := ix3_split y
  obtain rfl : z = 0 := Subsingleton.elim _ _
  obtain ⟨h, j, rfl⟩ := row_split r
  have e := idx_code t
  have he : (win0_9.blk t).view.emb (ix3 0 (hrow h j) p) = (ix3 (bOf t) (row (headAt t h) j) p : S6x6144x256.Idx) := by
    funext a
    match a with
    | ⟨0, _⟩ => exact Fin.ext (by show win0_9.index t 0 * 1 + 1 * 0 = (bOf t).val; rw [e, bOf_val]; show t.val / 8 * 1 + 1 * 0 = _; omega)
    | ⟨1, _⟩ => exact Fin.ext (by show win0_9.index t 1 * 768 + 1 * (96 * h.val + j.val) = (8 * (hOf t).val + h.val) * 96 + j.val; rw [e, hOf_val]; show t.val % 8 * 768 + 1 * (96 * h.val + j.val) = _; omega)
    | ⟨2, _⟩ => exact Fin.ext (by show win0_9.index t 2 * 256 + 1 * p.val = p.val; rw [e]; show 0 * 256 + 1 * p.val = _; omega)
  have ho := code_out m c G t p h (grp j) (pos j)
  rw [at32_grp] at ho
  refine ho.trans (Eq.trans ?_ (congrArg (codeArr m c) he).symm)
  show _ = codeE m c (bOf t) p (rowHead (row (headAt t h) j)) (grp (rowEntry (row (headAt t h) j))) (pos (rowEntry (row (headAt t h) j)))
  rw [head_row, entry_row]

theorem arr_scale : (dats m 0 c).arrAt 10 cfg0.N = scaleArr m c := by
  refine (dats m 0 c).arrAt_eq_of_covers 10 _ (by decide +kernel) fun t hf y => ?_
  blk_simp
  rw [after0_10]
  obtain ⟨z, g, h, p, rfl⟩ : ∃ (z : Fin 1) (g : Fin 3) (h : Fin 8) (p : Fin 256), y = ix4 z g h p := ix4_split y
  obtain rfl : z = 0 := Subsingleton.elim _ _
  have e := idx_scale t
  have he : (win0_10.blk t).view.emb (ix4 0 g h p) = (ix4 (bOf t) g (headAt t h) p : S6x3x64x256.Idx) := by
    funext a
    match a with
    | ⟨0, _⟩ => exact Fin.ext (by show win0_10.index t 0 * 1 + 1 * 0 = (bOf t).val; rw [e, bOf_val]; show t.val / 8 * 1 + 1 * 0 = _; omega)
    | ⟨1, _⟩ => exact Fin.ext (by show win0_10.index t 1 * 3 + 1 * g.val = g.val; rw [e]; show 0 * 3 + 1 * g.val = _; omega)
    | ⟨2, _⟩ => exact Fin.ext (by show win0_10.index t 2 * 8 + 1 * h.val = 8 * (hOf t).val + h.val; rw [e, hOf_val]; show t.val % 8 * 8 + 1 * h.val = _; omega)
    | ⟨3, _⟩ => exact Fin.ext (by show win0_10.index t 3 * 256 + 1 * p.val = p.val; rw [e]; show 0 * 256 + 1 * p.val = _; omega)
  exact (scale_out m c G t p h g).trans (congrArg (scaleArr m c) he).symm

end

end Cert.Arrays
-- ==== Proof.Tail.lean ====
/- What the lines after the grid make of the arrays that the grid leaves. -/
module

public import proofs.«01_k».proof.Proof.Arrays

@[expose] public section

set_option maxRecDepth 16384

noncomputable section

namespace Cert.Tail

open Idealize.ShloMosaic Idealize.ShloMosaic.TcCoe
open Cert.KernelIdeal Cert.KernelIdeal.Gen

variable (m : (b : Loc nD τ sig) → Buf (Elt Ideal) b) (c : Dev nD)

theorem after_codes (U : Valuation τ sig (Elt Ideal)) :
    StableHlo.after (hostOps1 (F := Ideal)) U (Proc.devRef .tc main_v8)
      = (transpose S6x256x64x96 [0, 3, 1, 2] (shapeCast S6x64x96x256 (U (Proc.devRef .tc main_v6_3) : Vec Ideal S6x6144x256 .i8) shapeCasts_S6x6144x256_S6x64x96x256) transposes_S6x64x96x256_S6x256x64x96_0_3_1_2 : Vec Ideal S6x256x64x96 .i8) := by
  rfl

theorem after_sum (U : Valuation τ sig (Elt Ideal)) :
    StableHlo.after (hostOps1 (F := Ideal)) U (Proc.devRef .tc main_v9)
      = (shapeCast S64 (U (Proc.devRef .tc main_v6_1) : Vec Ideal S1x64 .f32) shapeCasts_S1x64_S64 : Vec Ideal S64 .f32) := by
  rfl

theorem after_tok (U : Valuation τ sig (Elt Ideal)) :
    StableHlo.after (hostOps1 (F := Ideal)) U (Proc.devRef .tc main_v10)
      = (transpose S6x256x64 [0, 2, 1] (U (Proc.devRef .tc main_v6_2) : Vec Ideal S6x64x256 .f32) transposes_S6x64x256_S6x256x64_0_2_1 : Vec Ideal S6x256x64 .f32) := by
  rfl

theorem after_scales (U : Valuation τ sig (Elt Ideal)) :
    StableHlo.after (hostOps1 (F := Ideal)) U (Proc.devRef .tc main_v11)
      = (transpose S6x256x64x3 [0, 3, 2, 1] (U (Proc.devRef .tc main_v6_4) : Vec Ideal S6x3x64x256 .f32) transposes_S6x3x64x256_S6x256x64x3_0_3_2_1 : Vec Ideal S6x256x64x3 .f32) := by
  rfl

theorem arr_inj : Function.Injective (Pipeline.arrRef spec0) := by decide +kernel

/-- The result buffers after the lines. -/
theorem tail_codes : Pipeline.afterTail₀ cfgs (dats m) 0 (V0 m) [hostOps1] c main_v8
    = (transpose S6x256x64x96 [0, 3, 1, 2] (shapeCast S6x64x96x256 ((dats m 0 c).arrAt 9 cfg0.N : Vec Ideal S6x6144x256 .i8) shapeCasts_S6x6144x256_S6x64x96x256) transposes_S6x64x96x256_S6x256x64x96_0_3_1_2 : Vec Ideal S6x256x64x96 .i8) :=
  (after_codes _).trans (congrArg (fun x : Vec Ideal S6x6144x256 .i8 => (transpose S6x256x64x96 [0, 3, 1, 2] (shapeCast S6x64x96x256 x shapeCasts_S6x6144x256_S6x64x96x256) transposes_S6x64x96x256_S6x256x64x96_0_3_1_2 : Vec Ideal S6x256x64x96 .i8))
    (Pipeline.withArrays_arr spec0 arr_inj c (V0 m c) (fun w => (dats m 0 c).arrAt w cfg0.N) 9))

theorem tail_sum : Pipeline.afterTail₀ cfgs (dats m) 0 (V0 m) [hostOps1] c main_v9
    = (shapeCast S64 ((dats m 0 c).arrAt 7 cfg0.N : Vec Ideal S1x64 .f32) shapeCasts_S1x64_S64 : Vec Ideal S64 .f32) :=
  (after_sum _).trans (congrArg (fun x : Vec Ideal S1x64 .f32 => (shapeCast S64 x shapeCasts_S1x64_S64 : Vec Ideal S64 .f32))
    (Pipeline.withArrays_arr spec0 arr_inj c (V0 m c) (fun w => (dats m 0 c).arrAt w cfg0.N) 7))

theorem tail_tok : Pipeline.afterTail₀ cfgs (dats m) 0 (V0 m) [hostOps1] c main_v10
    = (transpose S6x256x64 [0, 2, 1] ((dats m 0 c).arrAt 8 cfg0.N : Vec Ideal S6x64x256 .f32) transposes_S6x64x256_S6x256x64_0_2_1 : Vec Ideal S6x256x64 .f32) :=
  (after_tok _).trans (congrArg (fun x : Vec Ideal S6x64x256 .f32 => (transpose S6x256x64 [0, 2, 1] x transposes_S6x64x256_S6x256x64_0_2_1 : Vec Ideal S6x256x64 .f32))
    (Pipeline.withArrays_arr spec0 arr_inj c (V0 m c) (fun w => (dats m 0 c).arrAt w cfg0.N) 8))

theorem tail_scales : Pipeline.afterTail₀ cfgs (dats m) 0 (V0 m) [hostOps1] c main_v11
    = (transpose S6x256x64x3 [0, 3, 2, 1] ((dats m 0 c).arrAt 10 cfg0.N : Vec Ideal S6x3x64x256 .f32) transposes_S6x3x64x256_S6x256x64x3_0_3_2_1 : Vec Ideal S6x256x64x3 .f32) :=
  (after_scales _).trans (congrArg (fun x : Vec Ideal S6x3x64x256 .f32 => (transpose S6x256x64x3 [0, 3, 2, 1] x transposes_S6x3x64x256_S6x256x64x3_0_3_2_1 : Vec Ideal S6x256x64x3 .f32))
    (Pipeline.withArrays_arr spec0 arr_inj c (V0 m c) (fun w => (dats m 0 c).arrAt w cfg0.N) 10))

/-! ### The results at their coordinates -/

section
variable (G : Points.Good m c)
include G
open Cert.Arrays

theorem codes_final (b : Fin 6) (p : Fin 256) (h : Fin 64) (j : Fin 96) :
    (Pipeline.afterTail₀ cfgs (dats m) 0 (V0 m) [hostOps1] c main_v8 : Vec Ideal S6x256x64x96 .i8) (ix4 b p h j) = codeE m c b p h (grp j) (pos j) := by
  rw [tail_codes, arr_code m c G]
  refine (transpose_apply _ _ _ (ix4 b p h j : S6x256x64x96.Idx) (ix4 b h j p : S6x64x96x256.Idx) fun b => match b with | ⟨0, _⟩ => rfl | ⟨1, _⟩ => rfl | ⟨2, _⟩ => rfl | ⟨3, _⟩ => rfl).trans ?_
  refine (shapeCast_apply _ _ _ (ix3 b (row h j) p : S6x6144x256.Idx) ?_).trans ?_
  · rw [Shape.rowMajor_val_three, Shape.rowMajor_val_four]
    show (b.val * 6144 + (h.val * 96 + j.val)) * 256 + p.val = ((b.val * 64 + h.val) * 96 + j.val) * 256 + p.val
    omega
  show codeE m c b p (rowHead (row h j)) (grp (rowEntry (row h j))) (pos (rowEntry (row h j))) = _
  rw [head_row, entry_row]

theorem tok_final (b : Fin 6) (p : Fin 256) (h : Fin 64) :
    (Pipeline.afterTail₀ cfgs (dats m) 0 (V0 m) [hostOps1] c main_v10 : Vec Ideal S6x256x64 .f32) (ix3 b p h) = tokE m c b p h := by
  rw [tail_tok, arr_tok m c G]
  exact transpose_apply _ _ _ (ix3 b p h : S6x256x64.Idx) (ix3 b h p : S6x64x256.Idx) fun b => match b with | ⟨0, _⟩ => rfl | ⟨1, _⟩ => rfl | ⟨2, _⟩ => rfl

theorem scales_final (b : Fin 6) (p : Fin 256) (h : Fin 64) (g : Fin 3) :
    (Pipeline.afterTail₀ cfgs (dats m) 0 (V0 m) [hostOps1] c main_v11 : Vec Ideal S6x256x64x3 .f32) (ix4 b p h g) = scaleE m c b p h g := by
  rw [tail_scales, arr_scale m c G]
  exact transpose_apply _ _ _ (ix4 b p h g : S6x256x64x3.Idx) (ix4 b g h p : S6x3x64x256.Idx) fun b => match b with | ⟨0, _⟩ => rfl | ⟨1, _⟩ => rfl | ⟨2, _⟩ => rfl | ⟨3, _⟩ => rfl

end

end Cert.Tail
-- ==== Proof.Sum.lean ====
/- The carried sum over the grid, and the one row that the last point stores of it. -/
module

public import proofs.«01_k».proof.Proof.Arrays

@[expose] public section

set_option maxRecDepth 16384

noncomputable section

namespace Cert.Sum

open Idealize.ShloMosaic Idealize.ShloMosaic.TcCoe
open Cert.KernelIdeal Cert.KernelIdeal.Gen Cert.Model Cert.Rot Cert.Quant Cert.Match Cert.Entry Cert.Points Cert.Outs Cert.Arrays

variable (m : (b : Loc nD τ sig) → Buf (Elt Ideal) b) (c : Dev nD)

/-- What a point adds to a row of the carried sum, at one lane. -/
def addE (b : Fin 6) (h : Fin 64) (l : Fin 128) : EReal := tokE m c b (tok 0 l) h + tokE m c b (tok 1 l) h

/-- The rows of a point, read after the point before. -/
theorem sum_whole : scM0_5.IsWhole := Memref.isWhole_whole _

theorem rows_hit (v : View sig .tc .vmem S64x128 .f32) (f : v.ty.Contents (Elt Ideal)) (t : Fin cfg0.N) (w : Vec Ideal S8x128 .f32)
    (L : List (View.Piece (Elt Ideal) S64x128 .f32)) (h : Fin 8) (l : Fin 128) :
    v.read (Elt Ideal) (v.writes (Elt Ideal) f (⟨Rect.unit (k0_off1 (grid0.coords t)) S8x128.size (k0_off1_inb (grid0.coords t)), w⟩ :: L)) (ix2 (headAt t h) l) = w (ix2 h l) := by
  rw [← rows_idx t h l]
  exact View.read_writes_cons_emb _ _ _ _ _ _

theorem own_row (t : Fin cfg0.N) (H : Fin 64) (e : H.val / 8 = t.val % 8) : ∃ h, H = headAt t h :=
  ⟨⟨H.val % 8, by omega⟩, Fin.ext (by show H.val = 8 * (hOf t).val + H.val % 8; rw [hOf_val]; omega)⟩

section
variable (G : Good m c)
include G

theorem acc_at (t : Fin cfg0.N) (al acc : Vec Ideal S8x128 .f32) (hal : ∀ h l, al (ix2 h l) = At m c t h) (h : Fin 8) (l : Fin 128) :
    accNew scM0_0 scM0_2 scM0_3 (kOf (ms0_0 t) (hs0_0 t) (iblk m c 0 t)) (rotOf (ms0_1 t) (hs0_1 t) (iblk m c 1 t)) (rotOf (ms0_2 t) (hs0_2 t) (iblk m c 2 t)) al acc
      (codesOf (ms0_4 t) (hs0_4 t) (iblk m c 4 t)) (tileOf (ms0_5 t) (hs0_5 t) (iblk m c 5 t)) (ix2 h l)
      = acc (ix2 h l) + addE m c (bOf t) (headAt t h) l := by
  rw [Block.acc_apply _ _ _ (point m c G t al hal), xrK, xrK, xrD, xrD, add_assoc]
  rfl

/-- One point: its own rows take its sum, the other rows stay. -/
theorem step_first (t : Fin cfg0.N) (h0 : t.val % 48 = 0) (H : Fin 64) (l : Fin 128) :
    (outsAt0 m c t.val t.isLt).2.2.2.2.2.2 (ix2 H l)
      = 0 + if H.val / 8 = t.val % 8 then addE m c (bOf t) H l else 0 := by
  have h1 : ¬ t.val % 48 = 47 := by omega
  rw [outsAt0_A m c t h0 h1]
  dsimp only
  unfold sout0_A_5
  rw [runA_acc]
  by_cases e : H.val / 8 = t.val % 8
  · rw [if_pos e]
    obtain ⟨h, rfl⟩ := own_row t H e
    refine (rows_hit _ _ t _ _ h l).trans ?_
    refine (acc_at m c G t _ _ (al_first m c t) _ l).trans ?_
    refine congrArg (· + _) ?_
    unfold zeroL
    exact (rows_writes t _ _ _ l).trans (zero_apply _)
  · rw [if_neg e, add_zero]
    refine (View.read_writes_cons_rows_of_not_mem _ _ _ _ _ _ (k0_off1_eq _) (rfl : S8x128.size 0 = 8) ?_).trans ?_
    · show H.val < 8 * (hOf t).val ∨ 8 * (hOf t).val + 8 ≤ H.val
      rw [hOf_val]; omega
    unfold zeroL
    rw [View.read_writes_full]
    exact zero_apply _

abbrev laterSum (t : Fin cfg0.N) : Vec Ideal S64x128 .f32 :=
  (outsAt0 m c (t.val - 1) (Nat.lt_of_le_of_lt (Nat.sub_le _ _) t.isLt)).2.2.2.2.2.2

theorem step_read (t : Fin cfg0.N) (H : Fin 64) (l : Fin 128) :
    scM0_5.view.read (Elt Ideal) (scM0_5.view.writes (Elt Ideal) (sum_whole.unread (laterSum m c t))
      (⟨Rect.unit (k0_off1 (grid0.coords t)) S8x128.size (k0_off1_inb (grid0.coords t)), accNew scM0_0 scM0_2 scM0_3 (kOf (ms0_0 t) (hs0_0 t) (iblk m c 0 t)) (rotOf (ms0_1 t) (hs0_1 t) (iblk m c 1 t)) (rotOf (ms0_2 t) (hs0_2 t) (iblk m c 2 t)) (laterRows m c t) (rowsOf (grid0.coords t) scM0_5 (sum_whole.unread (laterSum m c t))) (codesOf (ms0_4 t) (hs0_4 t) (iblk m c 4 t)) (tileOf (ms0_5 t) (hs0_5 t) (iblk m c 5 t))⟩ :: [])) (ix2 H l)
      = laterSum m c t (ix2 H l) + if H.val / 8 = t.val % 8 then addE m c (bOf t) H l else 0 := by
  by_cases e : H.val / 8 = t.val % 8
  · rw [if_pos e]
    obtain ⟨h, rfl⟩ := own_row t H e
    refine (rows_hit _ _ t _ _ h l).trans ?_
    refine (acc_at m c G t _ _ (al_later m c t) _ l).trans ?_
    rw [rows_unread]
  · rw [if_neg e, add_zero]
    refine (View.read_writes_cons_rows_of_not_mem _ _ _ _ _ _ (k0_off1_eq _) (rfl : S8x128.size 0 = 8) ?_).trans ?_
    · show H.val < 8 * (hOf t).val ∨ 8 * (hOf t).val + 8 ≤ H.val
      rw [hOf_val]; omega
    rw [View.writes_nil, Memref.IsWhole.read_unread]

theorem step_later (t : Fin cfg0.N) (h0 : ¬ t.val % 48 = 0) (H : Fin 64) (l : Fin 128) :
    (outsAt0 m c t.val t.isLt).2.2.2.2.2.2 (ix2 H l)
      = laterSum m c t (ix2 H l) + if H.val / 8 = t.val % 8 then addE m c (bOf t) H l else 0 := by
  by_cases h1 : t.val % 48 = 47
  · rw [outsAt0_C m c t h0 h1]
    dsimp only
    unfold sout0_C_5
    rw [runC_acc]
    exact step_read m c G t H l
  · rw [outsAt0_B m c t h0 h1]
    dsimp only
    unfold sout0_B_5
    rw [runB_acc]
    exact step_read m c G t H l

/-- The sum after point `n`. -/
theorem carried (n : ℕ) (hn : n < cfg0.N) (H : Fin 64) (l : Fin 128) :
    (outsAt0 m c n hn).2.2.2.2.2.2 (ix2 H l) = ∑ b : Fin 6, if 8 * b.val + H.val / 8 ≤ n then addE m c b H l else 0 := by
  have hN : n < 48 := hn
  induction n with
  | zero =>
    refine (step_first m c G ⟨0, hn⟩ rfl H l).trans ?_
    rw [zero_add]
    have e : ∀ b : Fin 6, (if 8 * b.val + H.val / 8 ≤ 0 then addE m c b H l else 0) = if (0 : Fin 6) = b then (if H.val / 8 = 0 then addE m c b H l else 0) else 0 := by
      intro b
      by_cases hb : (0 : Fin 6) = b
      · subst hb
        rw [if_pos rfl]
        exact if_congr (by show 8 * 0 + H.val / 8 ≤ 0 ↔ _; omega) rfl rfl
      · rw [if_neg hb, if_neg]
        intro hle
        exact hb (Fin.ext (by show 0 = b.val; omega))
    rw [Finset.sum_congr rfl fun b _ => e b, Finset.sum_ite_eq, if_pos (Finset.mem_univ _)]
    have hb : bOf ⟨0, hn⟩ = 0 := Fin.ext ((bOf_val ⟨0, hn⟩).trans (Nat.zero_div 8))
    rw [hb]
    rfl
  | succ n ih =>
    have h0 : ¬ (n + 1) % 48 = 0 := by omega
    refine (step_later m c G ⟨n + 1, hn⟩ h0 H l).trans ?_
    have hi := ih (by omega) (by omega)
    refine (congrArg (· + _) hi).trans ?_
    have hb : bOf ⟨n + 1, hn⟩ = (⟨(n + 1) / 8, by omega⟩ : Fin 6) := Fin.ext (bOf_val ⟨n + 1, hn⟩)
    rw [hb]
    have e : ∀ b : Fin 6, (if 8 * b.val + H.val / 8 ≤ n + 1 then addE m c b H l else 0)
        = (if 8 * b.val + H.val / 8 ≤ n then addE m c b H l else 0)
          + if (⟨(n + 1) / 8, by omega⟩ : Fin 6) = b then (if H.val / 8 = (n + 1) % 8 then addE m c b H l else 0) else 0 := by
      intro b
      by_cases hle : 8 * b.val + H.val / 8 ≤ n
      · rw [if_pos hle, if_pos (by omega)]
        by_cases hb : (⟨(n + 1) / 8, by omega⟩ : Fin 6) = b
        · rw [if_pos hb, if_neg, add_zero]
          have := congrArg Fin.val hb
          simp only at this
          omega
        · rw [if_neg hb, add_zero]
      · rw [if_neg hle, zero_add]
        by_cases hb : (⟨(n + 1) / 8, by omega⟩ : Fin 6) = b
        · rw [if_pos hb]
          have := congrArg Fin.val hb
          simp only at this
          exact if_congr (by omega) rfl rfl
        · rw [if_neg hb, if_neg]
          intro h'
          exact hb (Fin.ext (by show (n + 1) / 8 = b.val; omega))
    rw [Finset.sum_congr rfl fun b _ => e b, Finset.sum_add_distrib, Finset.sum_ite_eq, if_pos (Finset.mem_univ _)]

/-- The one row of the last point. -/
theorem row_last (t : Fin cfg0.N) (h1 : t.val % 48 = 47) (H : Fin 64) :
    (outsAt0 m c t.val t.isLt).2.1 (ix2 0 H) = ∑ l : Fin 128, (outsAt0 m c t.val t.isLt).2.2.2.2.2.2 (ix2 H l) := by
  have h0 : ¬ t.val % 48 = 0 := by omega
  refine Eq.trans ?_ (Finset.sum_congr rfl fun l _ => (step_later m c G t h0 H l).symm)
  rw [outsAt0_C m c t h0 h1]
  dsimp only
  unfold out0_C_7
  rw [View.read_writes_junk_eq_canon, runC_sum]
  refine (congrFun (View.canon_cons_unit_zero (funext fun a => match a with | ⟨0, _⟩ => rfl | ⟨1, _⟩ => rfl) _ _ _) _).trans ?_
  refine (lanes_apply _ H).trans (Finset.sum_congr rfl fun l _ => ?_)
  rw [View.readAt_full]
  exact step_read m c G t H l

theorem sum_tokens (f : Fin 256 → EReal) : ∑ p, f p = ∑ l : Fin 128, (f (tok 0 l) + f (tok 1 l)) := by
  rw [Finset.sum_add_distrib]
  refine (Fin.sum_univ_add (a := 128) (b := 128) f).trans ?_
  refine congrArg₂ (· + ·) (Finset.sum_congr rfl fun l _ => congrArg f (Fin.ext ?_)) (Finset.sum_congr rfl fun l _ => congrArg f (Fin.ext ?_))
  · show l.val = 128 * 0 + l.val; omega
  · show 128 + l.val = 128 * 1 + l.val; omega

theorem row_total (t : Fin cfg0.N) (h1 : t.val % 48 = 47) (H : Fin 64) :
    (outsAt0 m c t.val t.isLt).2.1 (ix2 0 H) = ∑ b : Fin 6, ∑ p : Fin 256, tokE m c b p H := by
  rw [row_last m c G t h1 H]
  have hN : t.val < 48 := t.isLt
  have e : ∀ l, (outsAt0 m c t.val t.isLt).2.2.2.2.2.2 (ix2 H l) = ∑ b : Fin 6, addE m c b H l := fun l => by
    rw [carried m c G t.val t.isLt H l]
    exact Finset.sum_congr rfl fun b _ => if_pos (by omega)
  rw [Finset.sum_congr rfl fun l _ => e l, Finset.sum_comm]
  exact Finset.sum_congr rfl fun b _ => (sum_tokens m c G fun p => tokE m c b p H).symm

/-- The last point of the grid. -/
def last : Fin cfg0.N := ⟨47, (by decide +kernel : 47 < grid0.N)⟩

def sumArr : S1x64.Idx → EReal := fun i => ∑ b : Fin 6, ∑ p : Fin 256, tokE m c b p (i 1)

theorem arr_sum : (dats m 0 c).arrAt 7 cfg0.N = sumArr m c := by
  refine (dats m 0 c).arrAt_eq_of_after_last 7 last (by decide +kernel) _ fun j => ?_
  blk_simp
  rw [after0_7]
  obtain ⟨z, H, rfl⟩ : ∃ (z : Fin 1) (H : Fin 64), j = ix2 z H :=
    ⟨j 0, j 1, funext fun x => match x with | ⟨0, _⟩ => rfl | ⟨1, _⟩ => rfl⟩
  obtain rfl : z = 0 := Subsingleton.elim _ _
  exact row_total m c G last rfl H

end

end Cert.Sum
-- ==== Proof.Ref.lean ====
/- What the reference computes, element by element. -/
module

public import proofs.«01_k».proof.Proof.Consts
public import proofs.«01_k».proof.Proof.Gen.ReferenceIdeal.Value
public import Idealize.ShloMosaic.Lib.Pipeline.ValueKit

@[expose] public section

set_option maxRecDepth 16384

noncomputable section

namespace Cert.Ref

open Idealize.ShloMosaic Idealize.ShloMosaic.TcCoe Cert.Scalar Cert.Consts
open Cert.ReferenceIdeal Cert.ReferenceIdeal.Gen Cert.ReferenceIdeal.Value

variable (K : Vec Ideal S6x256x6144 .bf16) (C S : Vec Ideal S6x256x48 .f32) (A : Vec Ideal S64 .f32)
  (D : Vec Ideal S6x256x64x96 .fp8e5m2) (E : Vec Ideal S6x256x64 .f32)

/-- The key's row of one token and head, and the token's angles. -/
def kx (b : Fin 6) (t : Fin 256) (h : Fin 64) (j : Fin 96) : EReal := K (ix3 b t ⟨h.val * 96 + j.val, by omega⟩)
def cx (b : Fin 6) (t : Fin 256) (j : Fin 48) : EReal := C (ix3 b t j)
def dx (b : Fin 6) (t : Fin 256) (h : Fin 64) (j : Fin 96) : EReal := D (ix4 b t h j)

/-- The rotated row. -/
abbrev kr (b : Fin 6) (t : Fin 256) (h : Fin 64) : Fin 96 → EReal := Spec.rot (kx K b t h) (cx C b t) (cx S b t)

/-- The two halves of a row turned back, as the reference writes it. -/
def turned (C S : Vec Ideal S6x256x48 .f32) (V : FVec Ideal S6x256x64x96 .f32) : FVec Ideal S6x256x6144 .f32 :=
  shapeCast S6x256x6144 (concatenate S6x256x64x96 3
    [⟨S6x256x64x48, addf (mulf (extractStridedSlice S6x256x64x48 ![0, 0, 0, 0] V slices_S6x256x64x96_o0_0_0_0_S6x256x64x48) (broadcastTo S6x256x64x48 (k0_pay2 C) broadcasts_S6x256x1x48_S6x256x64x48))
        (mulf (extractStridedSlice S6x256x64x48 ![0, 0, 0, 48] V slices_S6x256x64x96_o0_0_0_48_S6x256x64x48) (broadcastTo S6x256x64x48 (k0_pay3 S) broadcasts_S6x256x1x48_S6x256x64x48))⟩,
     ⟨S6x256x64x48, subf (mulf (extractStridedSlice S6x256x64x48 ![0, 0, 0, 48] V slices_S6x256x64x96_o0_0_0_48_S6x256x64x48) (broadcastTo S6x256x64x48 (k0_pay2 C) broadcasts_S6x256x1x48_S6x256x64x48))
        (mulf (extractStridedSlice S6x256x64x48 ![0, 0, 0, 0] V slices_S6x256x64x96_o0_0_0_0_S6x256x64x48) (broadcastTo S6x256x64x48 (k0_pay3 S) broadcasts_S6x256x1x48_S6x256x64x48))⟩]
    concatenates_S6x256x64x48_S6x256x64x48_S6x256x64x96_d3) shapeCasts_S6x256x64x96_S6x256x6144

theorem group_max (P : FVec Ideal S6x256x64x3x32 .f32) (b : Fin 6) (t : Fin 256) (h : Fin 64) (g : Fin 3) :
    multiReduction .maximumf [4] S6x256x64x3 (absf P) 0xFF800000#32 reduces_S6x256x64x3x32_S6x256x64x3 (.inl rfl) rfl (ix4 b t h g)
      = Finset.fold max (Ideal.ofBits .f32 4286578688#32) (fun x => FloatOps.absf (P (ix5 b t h g x))) Finset.univ := by
  pointwise

theorem spread {α : Type} (v : S6x256x64x3.Idx → α) (b : Fin 6) (t : Fin 256) (h : Fin 64) (g : Fin 3) (i : Fin 32) :
    broadcastTo S6x256x64x3x32 (shapeCast S6x256x64x3x1 v shapeCasts_S6x256x64x3_S6x256x64x3x1) broadcasts_S6x256x64x3x1_S6x256x64x3x32 (ix5 b t h g i) = v (ix4 b t h g) := by
  pointwise

theorem heads {α : Type} (v : S64.Idx → α) (b : Fin 6) (t : Fin 256) (h : Fin 64) (g : Fin 3) :
    broadcastTo S6x256x64x3 (shapeCast S1x1x64x1 (shapeCast S64x1 v shapeCasts_S64_S64x1) shapeCasts_S64x1_S1x1x64x1) broadcasts_S1x1x64x1_S6x256x64x3 (ix4 b t h g) = v (ix1 h) := by
  pointwise

theorem pay4_apply (b : Fin 6) (t : Fin 256) (h : Fin 64) (g : Fin 3) (i : Fin 32) :
    k0_pay4 C S K (ix5 b t h g i) = kr K C S b t h (Spec.at32 g i) := by
  unfold k0_pay4 k0_pay2 k0_pay3
  pointwise
  unfold kr Spec.rot Spec.at32 kx cx
  dsimp only
  split_ifs with hj
  · rfl
  · have e : (⟨h.val * 96 + (48 + (g.val * 32 + i.val - 48)), by omega⟩ : Fin 6144) = ⟨h.val * 96 + (g.val * 32 + i.val), by omega⟩ :=
      Fin.ext (by simp only; omega)
    exact congrArg (fun z => K (ix3 b t z) * _ + _) e
  · exact absurd rfl ‹_›

theorem pay5_apply (b : Fin 6) (t : Fin 256) (h : Fin 64) (g : Fin 3) :
    k0_pay5 C S K (ix4 b t h g) = Spec.amax (kr K C S b t h) g := by
  refine (group_max (k0_pay4 C S K) b t h g).trans ?_
  rw [bot_f32]
  unfold Spec.amax Finset.sup
  refine congrArg (fun f => Finset.fold max ⊥ f Finset.univ) (funext fun i => ?_)
  rw [pay4_apply]
  rfl

theorem scale_shape (a : FVec Ideal S6x256x64x3 .f32) (b : Fin 6) (t : Fin 256) (h : Fin 64) (g : Fin 3) :
    select (cmpf .oeq a (broadcast S6x256x64x3 (Scalar.ofBits .f32 0x00000000#32)))
      (broadcast S6x256x64x3 (Scalar.ofBits .f32 0x3F800000#32))
      (divf (mulf (broadcastTo S6x256x64x3 (shapeCast S1x1x64x1 (shapeCast S64x1 A shapeCasts_S64_S64x1) shapeCasts_S64x1_S1x1x64x1) broadcasts_S1x1x64x1_S6x256x64x3) a)
        (broadcast S6x256x64x3 (Scalar.ofBits .f32 0x40E00000#32))) (ix4 b t h g) = scale (A (ix1 h)) (a (ix4 b t h g)) := by
  rw [ValueIdx.select_apply, ValueIdx.cmpf_apply, ValueIdx.divf_apply, ValueIdx.mulf_apply, heads, ValueIdx.broadcast_apply,
    ValueIdx.broadcast_apply, ValueIdx.broadcast_apply]
  show Scalar.select (Ideal.cmp .oeq _ (Ideal.ofBits .f32 0x00000000#32)) (Ideal.ofBits .f32 0x3F800000#32)
    (Ideal.div _ (Ideal.ofBits .f32 0x40E00000#32)) = _
  rw [zero_f32, one_f32, seven_f32, cmp_oeq, select_if]
  unfold scale
  congr

theorem pay6_apply (b : Fin 6) (t : Fin 256) (h : Fin 64) (g : Fin 3) :
    k0_pay6 C S K A (ix4 b t h g) = Spec.sc (kx K b t h) (cx C b t) (cx S b t) (A (ix1 h)) g := by
  refine (scale_shape A (k0_pay5 C S K) b t h g).trans ?_
  rw [pay5_apply]
  unfold Spec.sc
  rfl

theorem div_spread (P : FVec Ideal S6x256x64x3x32 .f32) (Q : FVec Ideal S6x256x64x3 .f32) (b : Fin 6) (t : Fin 256) (h : Fin 64) (g : Fin 3) (i : Fin 32) :
    divf P (broadcastTo S6x256x64x3x32 (shapeCast S6x256x64x3x1 Q shapeCasts_S6x256x64x3_S6x256x64x3x1) broadcasts_S6x256x64x3x1_S6x256x64x3x32) (ix5 b t h g i)
      = Ideal.div (P (ix5 b t h g i)) (Q (ix4 b t h g)) := by
  rw [ValueIdx.divf_apply, spread]

theorem pay7_apply (b : Fin 6) (t : Fin 256) (h : Fin 64) (g : Fin 3) (i : Fin 32) :
    k0_pay7 C S K A (ix5 b t h g i) = Spec.ratio (kx K b t h) (cx C b t) (cx S b t) (A (ix1 h)) g i := by
  refine (div_spread (k0_pay4 C S K) (k0_pay6 C S K A) b t h g i).trans ?_
  rw [pay4_apply, pay6_apply]
  unfold Spec.ratio
  rfl

theorem clip_shape (r : FVec Ideal S6x256x64x3x32 .f32) (j : S6x256x64x3x32.Idx) :
    minimumf (broadcast S6x256x64x3x32 (Scalar.sitofp .f32 7#32)) (maximumf (broadcast S6x256x64x3x32 (Scalar.sitofp .f32 4294967289#32)) (roundeven r)) j
      = clip (rnd (r j)) := by
  show min (((7#32 : BitVec 32).toInt : ℝ) : EReal) (max (((4294967289#32 : BitVec 32).toInt : ℝ) : EReal) (rnd (r j))) = _
  rw [seven_int, neg_seven_int]
  rfl

theorem pay8_apply (b : Fin 6) (t : Fin 256) (h : Fin 64) (g : Fin 3) (i : Fin 32) :
    k0_pay8 C S K A (ix5 b t h g i) = Spec.code (kx K b t h) (cx C b t) (cx S b t) (A (ix1 h)) g i := by
  refine (clip_shape (k0_pay7 C S K A) _).trans ?_
  rw [pay7_apply]
  unfold Spec.code
  rfl

theorem inside_shape (r : FVec Ideal S6x256x64x3x32 .f32) (j : S6x256x64x3x32.Idx) :
    k0_pay11 r j = if max (r j) (-r j) ≤ 7 then 1#1 else 0#1 := by
  show Ideal.cmp .ole (max (r j) (-r j)) (Ideal.ofBits .f32 0x40E00000#32) = _
  rw [seven_f32, cmp_ole]

theorem grad_shape (b : Fin 6) (t : Fin 256) (h : Fin 64) (g : Fin 3) (i : Fin 32) :
    k0_pay10 D E (ix5 b t h g i) = D (ix4 b t h (Spec.at32 g i)) * E (ix3 b t h) := by
  unfold k0_pay10 Spec.at32
  pointwise

theorem tok_shape (a : FVec Ideal S6x256x64x3 .f32) (P : FVec Ideal S6x256x64x3x32 .f32) (b : Fin 6) (t : Fin 256) (h : Fin 64) :
    multiReduction .add [3] S6x256x64 (mulf (multiReduction .add [4] S6x256x64x3 P 0x00000000#32 reduces_S6x256x64x3x32_S6x256x64x3 (.inl rfl) rfl)
      (divf a (broadcast S6x256x64x3 (Scalar.ofBits .f32 0x40E00000#32)))) 0x00000000#32 reduces_S6x256x64x3_S6x256x64 (.inl rfl) rfl (ix3 b t h)
      = ∑ g : Fin 3, (∑ i : Fin 32, P (ix5 b t h g i)) * Ideal.div (a (ix4 b t h g)) (Ideal.ofBits .f32 0x40E00000#32) := by
  pointwise

theorem term_shape (r c : FVec Ideal S6x256x64x3x32 .f32) (j : S6x256x64x3x32.Idx) :
    mulf (k0_pay10 D E) (select (k0_pay11 r) (subf (sitofp .f32 (k0_pay9 c)) r) (sitofp .f32 (k0_pay9 c))) j
      = k0_pay10 D E j * (if max (r j) (-r j) ≤ 7 then (((Ideal.fptosi 8 (c j)).toInt : ℝ) : EReal) - r j else (((Ideal.fptosi 8 (c j)).toInt : ℝ) : EReal)) := by
  rw [ValueIdx.mulf_apply, ValueIdx.select_apply, inside_shape, select_if]
  rfl

theorem pay12_apply (b : Fin 6) (t : Fin 256) (h : Fin 64) :
    k0_pay12 (k0_pay5 C S K) (k0_pay7 C S K A) (k0_pay8 C S K A) D E (ix3 b t h)
      = Spec.tok (kx K b t h) (cx C b t) (cx S b t) (A (ix1 h)) (dx D b t h) (E (ix3 b t h)) := by
  refine (tok_shape (k0_pay5 C S K) _ b t h).trans ?_
  unfold Spec.tok Spec.tokG
  rw [seven_f32]
  refine Finset.sum_congr rfl fun g _ => ?_
  rw [pay5_apply]
  refine congrArg (· * Ideal.div (Spec.amax (kr K C S b t h) g) 7) (Finset.sum_congr rfl fun i _ => ?_)
  rw [term_shape, grad_shape, pay8_apply, pay7_apply]
  unfold Spec.term Spec.inside Spec.code dx
  rw [byte_round_trip]
  congr

theorem merge {α : Type} (P : S6x256x64x3x32.Idx → α) (b : Fin 6) (t : Fin 256) (h : Fin 64) (j : Fin 96) :
    shapeCast S6x256x64x96 P shapeCasts_S6x256x64x3x32_S6x256x64x96 (ix4 b t h j)
      = P (ix5 b t h ⟨j.val / 32, by omega⟩ ⟨j.val % 32, by omega⟩) := by
  pointwise

theorem turned_apply (C S : Vec Ideal S6x256x48 .f32) (V : FVec Ideal S6x256x64x96 .f32) (b : Fin 6) (t : Fin 256) (h : Fin 64) (j : Fin 96) :
    turned C S V (ix3 b t ⟨h.val * 96 + j.val, by omega⟩)
      = Spec.unrot (fun i => V (ix4 b t h i)) (cx C b t) (cx S b t) j := by
  unfold turned k0_pay2 k0_pay3
  refine (shapeCast_apply _ _ _ (ix4 b t h j) ?_).trans ?_
  · rw [Shape.rowMajor_val_four, Shape.rowMajor_val_three]
    show ((b.val * 256 + t.val) * 64 + h.val) * 96 + j.val = (b.val * 256 + t.val) * 6144 + (h.val * 96 + j.val)
    omega
  pointwise
  unfold Spec.unrot cx
  dsimp only
  split_ifs with hj
  · rfl
  · have e : (⟨48 + (j.val - 48), by omega⟩ : Fin 96) = j := Fin.ext (by simp only; omega)
    exact congrArg (fun z => V (ix4 b t h z) * _ - _) e
  · exact absurd rfl ‹_›

theorem pass_shape (r : FVec Ideal S6x256x64x3x32 .f32) (j : S6x256x64x3x32.Idx) :
    select (k0_pay11 r) (k0_pay10 D E) (broadcast S6x256x64x3x32 (Scalar.ofBits .f32 0x00000000#32)) j
      = if max (r j) (-r j) ≤ 7 then k0_pay10 D E j else 0 := by
  rw [ValueIdx.select_apply, inside_shape, select_if]
  show (if _ then _ else Ideal.ofBits .f32 0x00000000#32) = _
  rw [zero_f32]

theorem pay14_turned (v : FVec Ideal S6x256x64x3x32 .f32) :
    k0_pay14 (k0_pay2 C) (k0_pay3 S) v D E = truncf .bf16 (turned C S (shapeCast S6x256x64x96 (select (k0_pay11 v) (k0_pay10 D E)
      (broadcast S6x256x64x3x32 (Scalar.ofBits .f32 0x00000000#32))) shapeCasts_S6x256x64x3x32_S6x256x64x96)) bitsLt_bf16_f32 := by
  unfold k0_pay14 turned
  rfl

theorem truncf_at {s : Shape} (v : FVec Ideal s .f32) (j : s.Idx) : (truncf .bf16 v bitsLt_bf16_f32 : FVec Ideal s .bf16) j = v j := by
  rfl

theorem pay14_apply (b : Fin 6) (t : Fin 256) (h : Fin 64) (j : Fin 96) :
    k0_pay14 (k0_pay2 C) (k0_pay3 S) (k0_pay7 C S K A) D E (ix3 b t ⟨h.val * 96 + j.val, by omega⟩)
      = Spec.dk (kx K b t h) (cx C b t) (cx S b t) (A (ix1 h)) (dx D b t h) (E (ix3 b t h)) j := by
  have h7 : ∀ g i, k0_pay7 C S K A (ix5 b t h g i) = Spec.ratio (kx K b t h) (cx C b t) (cx S b t) (A (ix1 h)) g i := fun g i =>
    pay7_apply K C S A b t h g i
  generalize k0_pay7 C S K A = v at h7 ⊢
  rw [pay14_turned, truncf_at, turned_apply]
  unfold Spec.dk
  refine congrArg (fun P => Spec.unrot P (cx C b t) (cx S b t) j) (funext fun i => ?_)
  rw [merge, pass_shape, h7, grad_shape]
  unfold Spec.pass Spec.inside dx
  have e : Spec.at32 ⟨i.val / 32, by omega⟩ ⟨i.val % 32, by omega⟩ = i := Fin.ext (by show i.val / 32 * 32 + i.val % 32 = i.val; omega)
  rw [e]
  congr

theorem sum_first_two (v : FVec Ideal S6x256x64 .f32) (h : Fin 64) :
    multiReduction .add [0, 1] S64 v 0x00000000#32 reduces_S6x256x64_S64 (.inl rfl) rfl (ix1 h)
      = ∑ b : Fin 6, ∑ t : Fin 256, v (ix3 b t h) := by
  show Ideal.reduceAdd reduces_S6x256x64_S64 v (ix1 h) = _
  unfold Ideal.reduceAdd
  rw [Finset.sum_filter, sum_idx3]
  refine Finset.sum_congr rfl fun b _ => Finset.sum_congr rfl fun t _ => ?_
  have hv : ∀ h' : Fin 64, (reduces_S6x256x64_S64.drop (ix3 b t h') 0 : Nat) = h'.val := fun h' =>
    Shape.Reduces.drop_apply_val_of_eq reduces_S6x256x64_S64 (ix3 b t h') 0 2 (by decide)
  rw [Finset.sum_eq_single h]
  · rw [if_pos]
    funext a
    match a with
    | ⟨0, _⟩ => exact Fin.ext (hv h)
  · intro h' _ hh
    rw [if_neg]
    intro e
    apply hh
    have := congrArg (fun f : S64.Idx => (f 0).val) e
    exact Fin.ext ((hv h').symm.trans this)
  · intro hh
    exact absurd (Finset.mem_univ _) hh

end Cert.Ref
-- ==== Proof.RefOut.lean ====
/- The reference's five results, by coordinates. -/
module

public import proofs.«01_k».proof.Proof.Ref

@[expose] public section

set_option maxRecDepth 16384

noncomputable section

namespace Cert.Ref

open Idealize.ShloMosaic Idealize.ShloMosaic.TcCoe Cert.Scalar Cert.Consts
open Cert.ReferenceIdeal Cert.ReferenceIdeal.Gen Cert.ReferenceIdeal.Value

variable (K : Vec Ideal S6x256x6144 .bf16) (C S : Vec Ideal S6x256x48 .f32) (A : Vec Ideal S64 .f32)
  (D : Vec Ideal S6x256x64x96 .fp8e5m2) (E : Vec Ideal S6x256x64 .f32)

theorem loads_5 : k0_pay15 K C S A D E = k0_pay5 C S K := by
  unfold k0_pay15
  rw [View.ld_unit_zero (S := S6x256x48) hz1 _ C, View.ld_unit_zero (S := S6x256x48) hz2 _ S, View.ld_unit_zero (S := S6x256x6144) hz0 _ K]

theorem loads_7 : k0_pay16 K C S A D E = k0_pay7 C S K A := by
  unfold k0_pay16
  rw [View.ld_unit_zero (S := S6x256x48) hz1 _ C, View.ld_unit_zero (S := S6x256x48) hz2 _ S, View.ld_unit_zero (S := S6x256x6144) hz0 _ K, View.ld_unit_zero (S := S64) hz3 _ A]

theorem loads_8 : k0_pay17 K C S A D E = k0_pay8 C S K A := by
  unfold k0_pay17
  rw [View.ld_unit_zero (S := S6x256x48) hz1 _ C, View.ld_unit_zero (S := S6x256x48) hz2 _ S, View.ld_unit_zero (S := S6x256x6144) hz0 _ K, View.ld_unit_zero (S := S64) hz3 _ A]

theorem out_dk (b : Fin 6) (t : Fin 256) (h : Fin 64) (j : Fin 96) :
    G6 K C S A D E (ix3 b t ⟨h.val * 96 + j.val, by omega⟩)
      = Spec.dk (kx K b t h) (cx C b t) (cx S b t) (A (ix1 h)) (dx D b t h) (E (ix3 b t h)) j := by
  unfold G6
  rw [loads_7]
  exact pay14_apply K C S A D E b t h j

theorem out_tok (b : Fin 6) (t : Fin 256) (h : Fin 64) :
    G8 K C S A D E (ix3 b t h)
      = Spec.tok (kx K b t h) (cx C b t) (cx S b t) (A (ix1 h)) (dx D b t h) (E (ix3 b t h)) := by
  unfold G8
  rw [loads_5, loads_7, loads_8]
  exact pay12_apply K C S A D E b t h

theorem out_sum (h : Fin 64) : G7 K C S A D E (ix1 h) = ∑ b : Fin 6, ∑ t : Fin 256, G8 K C S A D E (ix3 b t h) := by
  unfold G7 G8
  exact sum_first_two _ h

theorem out_codes (b : Fin 6) (t : Fin 256) (h : Fin 64) (j : Fin 96) :
    G9 K C S A D E (ix4 b t h j)
      = FloatOps.fptosi (F := Ideal) (φ := .f32) 8 (Spec.code (kx K b t h) (cx C b t) (cx S b t) (A (ix1 h)) ⟨j.val / 32, by omega⟩ ⟨j.val % 32, by omega⟩) := by
  unfold G9
  rw [loads_8]
  refine (merge (k0_pay9 (k0_pay8 C S K A)) b t h j).trans ?_
  exact congrArg (FloatOps.fptosi (F := Ideal) (φ := .f32) 8) (pay8_apply K C S A b t h _ _)

theorem out_scales (b : Fin 6) (t : Fin 256) (h : Fin 64) (g : Fin 3) :
    G10 K C S A D E (ix4 b t h g) = Spec.sc (kx K b t h) (cx C b t) (cx S b t) (A (ix1 h)) g := by
  unfold G10
  exact pay6_apply K C S A b t h g

end Cert.Ref
-- ==== Proof.Final.lean ====
/- The kernel's five results are the reference's. -/
module

public import proofs.«01_k».proof.Proof.Tail
public import proofs.«01_k».proof.Proof.Sum
public import proofs.«01_k».proof.Proof.RefOut

@[expose] public section

set_option maxRecDepth 16384

noncomputable section

namespace Cert.Final

open Idealize.ShloMosaic Idealize.ShloMosaic.TcCoe
open Cert.KernelIdeal Cert.KernelIdeal.Gen Cert.Arrays

variable (m : (b : Loc nD τ sig) → Buf (Elt Ideal) b) (c : Dev nD)

/-- The arguments, as arrays. -/
abbrev a0 : Vec Ideal S6x256x6144 .bf16 := m ((c : Thread nD τ).loc main_arg0)
abbrev a1 : Vec Ideal S6x256x48 .f32 := m ((c : Thread nD τ).loc main_arg1)
abbrev a2 : Vec Ideal S6x256x48 .f32 := m ((c : Thread nD τ).loc main_arg2)
abbrev a3 : Vec Ideal S64 .f32 := m ((c : Thread nD τ).loc main_arg3)
abbrev a4 : Vec Ideal S6x256x64x96 .fp8e5m2 := m ((c : Thread nD τ).loc main_arg4)
abbrev a5 : Vec Ideal S6x256x64 .f32 := m ((c : Thread nD τ).loc main_arg5)

abbrev R6 : Vec Ideal S6x256x6144 .bf16 := Cert.ReferenceIdeal.Value.G6 (a0 m c) (a1 m c) (a2 m c) (a3 m c) (a4 m c) (a5 m c)
abbrev R7 : Vec Ideal S64 .f32 := Cert.ReferenceIdeal.Value.G7 (a0 m c) (a1 m c) (a2 m c) (a3 m c) (a4 m c) (a5 m c)
abbrev R8 : Vec Ideal S6x256x64 .f32 := Cert.ReferenceIdeal.Value.G8 (a0 m c) (a1 m c) (a2 m c) (a3 m c) (a4 m c) (a5 m c)
abbrev R9 : Vec Ideal S6x256x64x96 .i8 := Cert.ReferenceIdeal.Value.G9 (a0 m c) (a1 m c) (a2 m c) (a3 m c) (a4 m c) (a5 m c)
abbrev R10 : Vec Ideal S6x256x64x3 .f32 := Cert.ReferenceIdeal.Value.G10 (a0 m c) (a1 m c) (a2 m c) (a3 m c) (a4 m c) (a5 m c)

theorem ref_tok (b : Fin 6) (p : Fin 256) (h : Fin 64) : R8 m c (ix3 b p h) = tokE m c b p h :=
  Ref.out_tok _ _ _ _ _ _ b p h

theorem row_of (r : Fin 6144) : ∃ h j, r = row h j :=
  ⟨rowHead r, rowEntry r, Fin.ext (by show r.val = r.val / 96 * 96 + r.val % 96; omega)⟩

section
variable (G : Points.Good m c)
include G

theorem dk_eq : ((dats m 0 c).arrAt 6 cfg0.N : Vec Ideal S6x256x6144 .bf16) = R6 m c := by
  rw [arr_dk m c G]
  funext y
  obtain ⟨b, p, r, rfl⟩ : ∃ (b : Fin 6) (p : Fin 256) (r : Fin 6144), y = ix3 b p r := ix3_split y
  obtain ⟨h, j, rfl⟩ := row_of r
  refine Eq.trans ?_ (Ref.out_dk (a0 m c) (a1 m c) (a2 m c) (a3 m c) (a4 m c) (a5 m c) b p h j).symm
  show dkE m c b p (rowHead (row h j)) (rowEntry (row h j)) = _
  rw [head_row, entry_row]
  rfl

theorem sum_eq : (Pipeline.afterTail₀ cfgs (dats m) 0 (V0 m) [hostOps1] c main_v9 : Vec Ideal S64 .f32) = R7 m c := by
  rw [Tail.tail_sum, Sum.arr_sum m c G]
  funext y
  obtain ⟨h, rfl⟩ : ∃ h : Fin 64, y = ix1 h := ⟨y 0, funext fun x => match x with | ⟨0, _⟩ => rfl⟩
  refine (shapeCast_apply _ _ (ix1 h : S64.Idx) (ix2 0 h : S1x64.Idx) ?_).trans ?_
  · rw [Shape.rowMajor_val_two, Shape.rowMajor_val_one]
    show 0 * 64 + h.val = h.val
    omega
  refine Eq.trans ?_ (Ref.out_sum (a0 m c) (a1 m c) (a2 m c) (a3 m c) (a4 m c) (a5 m c) h).symm
  exact Finset.sum_congr rfl fun b _ => Finset.sum_congr rfl fun p _ => (ref_tok m c b p h).symm

theorem tok_eq : (Pipeline.afterTail₀ cfgs (dats m) 0 (V0 m) [hostOps1] c main_v10 : Vec Ideal S6x256x64 .f32) = R8 m c := by
  funext y
  obtain ⟨b, p, h, rfl⟩ : ∃ (b : Fin 6) (p : Fin 256) (h : Fin 64), y = ix3 b p h := ix3_split y
  exact (Tail.tok_final m c G b p h).trans (ref_tok m c b p h).symm

theorem codes_eq : (Pipeline.afterTail₀ cfgs (dats m) 0 (V0 m) [hostOps1] c main_v8 : Vec Ideal S6x256x64x96 .i8) = R9 m c := by
  funext y
  obtain ⟨b, p, h, j, rfl⟩ : ∃ (b : Fin 6) (p : Fin 256) (h : Fin 64) (j : Fin 96), y = ix4 b p h j := ix4_split y
  exact (Tail.codes_final m c G b p h j).trans (Ref.out_codes (a0 m c) (a1 m c) (a2 m c) (a3 m c) (a4 m c) (a5 m c) b p h j).symm

theorem scales_eq : (Pipeline.afterTail₀ cfgs (dats m) 0 (V0 m) [hostOps1] c main_v11 : Vec Ideal S6x256x64x3 .f32) = R10 m c := by
  funext y
  obtain ⟨b, p, h, g, rfl⟩ : ∃ (b : Fin 6) (p : Fin 256) (h : Fin 64) (g : Fin 3), y = ix4 b p h g := ix4_split y
  exact (Tail.scales_final m c G b p h g).trans (Ref.out_scales (a0 m c) (a1 m c) (a2 m c) (a3 m c) (a4 m c) (a5 m c) b p h g).symm

end

end Cert.Final
-- ==== Proof.Pre.lean ====
/- The claim's precondition, read element by element. -/
module

public import proofs.«01_k».proof.Defs
public import proofs.«01_k».proof.Proof.Points
public import proofs.«01_k».proof.Proof.Consts
public import Idealize.ShloMosaic.Lib.ReduceAll

@[expose] public section

set_option maxRecDepth 16384

noncomputable section

namespace Cert.Pre

open Idealize.ShloMosaic Idealize.ShloMosaic.TcCoe

theorem facts : Cert.Pre_admissible.Facts where
  bcast_S_S64 := by decide
  reducesTo_S64_S_d0 := by decide
  h_S_ := by decide
  bcast_S_S6x256x64 := by decide
  reducesTo_S6x256x64_S_d0_1_2 := by decide

theorem top_f32 : Ideal.ofBits .f32 0x7F800000#32 = ⊤ := by simp [Ideal.ofBits, Ideal.ieee]

theorem of_bit {p : Prop} [Decidable p] (h : BitVec.ofBool (decide p) = 1#1) : p := by
  by_contra hp
  rw [decide_eq_false hp] at h
  exact absurd h (by decide)

theorem and_one (x y : BitVec 1) (h : IntOp.andi x y = 1#1) : x = 1#1 ∧ y = 1#1 := by
  revert x y
  decide

instance : Subsingleton Cert.Pre_admissible.S_.Idx := ⟨fun a b => funext fun i => i.elim0⟩

attribute [local instance] facts

theorem good (m : (b : Loc Cert.KernelIdeal.nD Cert.KernelIdeal.τ Cert.KernelIdeal.sig) → Buf (Elt Ideal) b)
    (hp : Cert.Pre_KernelIdeal_admissible m) (c : Dev Cert.KernelIdeal.nD) : Cert.Points.Good m c := by
  have e := congrFun (hp c) (fun i => i.elim0)
  unfold Cert.Pre_admissible.fn at e
  obtain ⟨e1, e2⟩ := and_one _ _ e
  have h2 := fun i => and_one _ _ (Host.reduce_andi_all _ _ _ _ _ e2 i)
  refine ⟨fun h => ?_, fun b p h => ?_, fun b p h => ?_⟩
  · have := of_bit (Host.reduce_andi_all _ _ _ _ _ e1 (ix1 h))
    exact fun z => this (z.trans Cert.Consts.zero_f32.symm)
  · have := of_bit (h2 (ix3 b p h)).1
    exact le_of_eq_of_le Cert.Consts.zero_f32.symm this
  · have := of_bit (h2 (ix3 b p h)).2
    exact lt_of_lt_of_eq this top_f32

end Cert.Pre
-- ==== Proof.Runs.lean ====
/- The two runs: what each program leaves in its results, under the precondition. -/
module

public import proofs.«01_k».proof.Proof.Final
public import proofs.«01_k».proof.Proof.Pre

@[expose] public section

set_option maxRecDepth 16384

noncomputable section

namespace Cert.Runs

open Idealize.ShloMosaic Idealize.ShloMosaic.TcCoe Idealize.SL.Sem Cert.Final

attribute [local instance] Cert.Pre.facts

section
open Cert.KernelIdeal Cert.KernelIdeal.Gen

/-- The kernel leaves the reference's five arrays in its results and its arguments as they were. -/
theorem kernel (m : (b : Loc nD τ sig) → Buf (Elt Ideal) b) (ρ : Dev nD → PrngReg) (hp : Cert.Pre_KernelIdeal_admissible m) :
    θ_run (defs (F := Ideal)) (onTc (τ := τ) (main (F := Ideal))) ⟨m, fun _ => 0, ρ⟩ (fun r => ∀ c : Dev nD,
      r.2.mem ((c : Thread nD τ).loc main_v6_0) = R6 m c
      ∧ r.2.mem ((c : Thread nD τ).loc main_v9) = R7 m c
      ∧ r.2.mem ((c : Thread nD τ).loc main_v10) = R8 m c
      ∧ r.2.mem ((c : Thread nD τ).loc main_v8) = R9 m c
      ∧ r.2.mem ((c : Thread nD τ).loc main_v11) = R10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run defs _ _).mono ?_ (θ_run_and (run_main (F := Ideal) m ρ) (unchanged (F := Ideal) m ρ))
  rintro r ⟨h, u⟩ c
  have G := Cert.Pre.good m hp c
  exact ⟨(h.out_eq c 6).trans (dk_eq m c G),
    (h.rest_eq c main_v9 (by decide)).trans (sum_eq m c G),
    (h.rest_eq c main_v10 (by decide)).trans (tok_eq m c G),
    (h.rest_eq c main_v8 (by decide)).trans (codes_eq m c G),
    (h.rest_eq c main_v11 (by decide)).trans (scales_eq m c G), u c⟩

end

theorem algebraic : Cert.algebraic_KernelIdeal_ReferenceIdeal_pre_admissible
    (hKernelIdeal := Cert.KernelIdeal.Gen.facts) (hReferenceIdeal := Cert.ReferenceIdeal.Gen.facts) (hPre_admissible := Cert.Pre.facts) := by
  intro m g m' g' hp e
  refine ⟨R6 m, R7 m, R8 m, R9 m, R10 m, kernel m g hp, ?_⟩
  refine (θ_run _ _ _).mono ?_ (Cert.ReferenceIdeal.Value.run (F := Ideal) m' g')
  intro r h c
  obtain ⟨h6, h7, h8, h9, h10, u⟩ := h c
  obtain ⟨e0, e1, e2, e3, e4, e5⟩ := e c
  rw [e0, e1, e2, e3, e4, e5] at h6 h7 h8 h9 h10
  exact ⟨h6, h7, h8, h9, h10, u⟩

end Cert.Runs

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.Runs
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre.facts,
  fun m ρ _ => Cert.Kernel.Gen.frame m ρ,
  fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "inv_qmax" .f32 0x3E124925#32 ((1 / 7 : ℝ) : EReal) rfl,
  Cert.Runs.algebraic⟩

end Cert.Proof

end
